-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v315) = v0 c
          ∧ r.2.mem ((c.tc : Thread Cert.ReferenceIdeal.nD Cert.ReferenceIdeal.τ).loc Cert.ReferenceIdeal.main_v220) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x64x384x384 : Shape := ⟨4, ![1, 64, 384, 384]⟩
abbrev S3x64x64 : Shape := ⟨3, ![3, 64, 64]⟩
abbrev S3x64 : Shape := ⟨2, ![3, 64]⟩
abbrev S3x4x128x16 : Shape := ⟨4, ![3, 4, 128, 16]⟩
abbrev S_ : Shape := ⟨0, ![]⟩

class Facts : Prop where
  bcast_S_S1x64x384x384 : S_.BroadcastsInDim S1x64x384x384 (![] : Fin 0 → Fin S1x64x384x384.rank)
  bcast_S_S3x64x64 : S_.BroadcastsInDim S3x64x64 (![] : Fin 0 → Fin S3x64x64.rank)
  bcast_S_S3x64 : S_.BroadcastsInDim S3x64 (![] : Fin 0 → Fin S3x64.rank)
  bcast_S_S3x4x128x16 : S_.BroadcastsInDim S3x4x128x16 (![] : Fin 0 → Fin S3x4x128x16.rank)

variable [Facts]

def fn_part1 {F : FTy → Type} [FloatOps F] (main_arg6 : FVec F S3x64 .f32) (main_arg13 : FVec F S3x4x128x16 .f32) (main_v2 : IVec S1x64x384x384 1) (main_v5 : IVec S3x64x64 1) (main_v8 : IVec S3x64 1) (main_v11 : IVec S3x64x64 1) (main_v14 : IVec S3x64 1) (main_v17 : IVec S3x64x64 1) : IVec S1x64x384x384 1 × IVec S3x64x64 1 × IVec S3x64 1 × IVec S3x64x64 1 × IVec S3x64 1 × IVec S3x64x64 1 × IVec S3x64 1 × IVec S3x4x128x16 1 :=
  let main_v18 : FVec F S3x64 .f32 := Host.absf main_arg6
  let main_cst_5 : FVec F S_ .f32 := constant S_ .f32 0x7F800000#32
  let main_v19 : FVec F S3x64 .f32 := broadcastInDim S3x64 ![] bcast_S_S3x64 main_cst_5
  let main_v20 : IVec S3x64 1 := cmpf .olt main_v18 main_v19
  let main_v21 : FVec F S3x4x128x16 .f32 := Host.absf main_arg13
  let main_cst_6 : FVec F S_ .f32 := constant S_ .f32 0x7F800000#32
  let main_v22 : FVec F S3x4x128x16 .f32 := broadcastInDim S3x4x128x16 ![] bcast_S_S3x4x128x16 main_cst_6
  let main_v23 : IVec S3x4x128x16 1 := cmpf .olt main_v21 main_v22
  (main_v2, main_v5, main_v8, main_v11, main_v14, main_v17, main_v20, main_v23)

def fn {F : FTy → Type} [FloatOps F] (main_arg0 : FVec F S1x64x384x384 .f32) (main_arg1 : FVec F S3x64x64 .f32) (main_arg2 : FVec F S3x64 .f32) (main_arg3 : FVec F S3x64x64 .f32) (main_arg4 : FVec F S3x64 .f32) (main_arg5 : FVec F S3x64x64 .f32) (main_arg6 : FVec F S3x64 .f32) (main_arg7 : FVec F S3x64x64 .f32) (main_arg8 : FVec F S3x64 .f32) (main_arg9 : FVec F S3x64x64 .f32) (main_arg10 : FVec F S3x64 .f32) (main_arg11 : FVec F S3x64x64 .f32) (main_arg12 : FVec F S3x64 .f32) (main_arg13 : FVec F S3x4x128x16 .f32) : IVec S1x64x384x384 1 × IVec S3x64x64 1 × IVec S3x64 1 × IVec S3x64x64 1 × IVec S3x64 1 × IVec S3x64x64 1 × IVec S3x64 1 × IVec S3x4x128x16 1 :=
  let main_v0 : FVec F S1x64x384x384 .f32 := Host.absf main_arg0
  let main_cst : FVec F S_ .f32 := constant S_ .f32 0x7F800000#32
  let main_v1 : FVec F S1x64x384x384 .f32 := broadcastInDim S1x64x384x384 ![] bcast_S_S1x64x384x384 main_cst
  let main_v2 : IVec S1x64x384x384 1 := cmpf .olt main_v0 main_v1
  let main_v3 : FVec F S3x64x64 .f32 := Host.absf main_arg1
  let main_cst_0 : FVec F S_ .f32 := constant S_ .f32 0x7F800000#32
  let main_v4 : FVec F S3x64x64 .f32 := broadcastInDim S3x64x64 ![] bcast_S_S3x64x64 main_cst_0
  let main_v5 : IVec S3x64x64 1 := cmpf .olt main_v3 main_v4
  let main_v6 : FVec F S3x64 .f32 := Host.absf main_arg2
  let main_cst_1 : FVec F S_ .f32 := constant S_ .f32 0x7F800000#32
  let main_v7 : FVec F S3x64 .f32 := broadcastInDim S3x64 ![] bcast_S_S3x64 main_cst_1
  let main_v8 : IVec S3x64 1 := cmpf .olt main_v6 main_v7
  let main_v9 : FVec F S3x64x64 .f32 := Host.absf main_arg3
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_v12 : FVec F S3x64 .f32 := Host.absf main_arg4
  let main_cst_3 : FVec F S_ .f32 := constant S_ .f32 0x7F800000#32
  let main_v13 : FVec F S3x64 .f32 := broadcastInDim S3x64 ![] bcast_S_S3x64 main_cst_3
  let main_v14 : IVec S3x64 1 := cmpf .olt main_v12 main_v13
  let main_v15 : FVec F S3x64x64 .f32 := Host.absf main_arg5
  let main_cst_4 : FVec F S_ .f32 := constant S_ .f32 0x7F800000#32
  let main_v16 : FVec F S3x64x64 .f32 := broadcastInDim S3x64x64 ![] bcast_S_S3x64x64 main_cst_4
  let main_v17 : IVec S3x64x64 1 := cmpf .olt main_v15 main_v16
  fn_part1 (F := F) main_arg6 main_arg13 main_v2 main_v5 main_v8 main_v11 main_v14 main_v17
-- ==== Kernel.lean ====
abbrev S1x64x384x384 : Shape := ⟨4, ![1, 64, 384, 384]⟩
abbrev S3x64x64 : Shape := ⟨3, ![3, 64, 64]⟩
abbrev S3x64 : Shape := ⟨2, ![3, 64]⟩
abbrev S3x4x128x16 : Shape := ⟨4, ![3, 4, 128, 16]⟩
abbrev S64x147456 : Shape := ⟨2, ![64, 147456]⟩
abbrev S_ : Shape := ⟨0, ![]⟩
abbrev S3x4x128 : Shape := ⟨3, ![3, 4, 128]⟩
abbrev S147456x64 : Shape := ⟨2, ![147456, 64]⟩
abbrev S1x1 : Shape := ⟨2, ![1, 1]⟩
abbrev S64x4096 : Shape := ⟨2, ![64, 4096]⟩
abbrev S4096x64 : Shape := ⟨2, ![4096, 64]⟩
abbrev S3x64x512 : Shape := ⟨3, ![3, 64, 512]⟩
abbrev S3x512x64 : Shape := ⟨3, ![3, 512, 64]⟩
abbrev S3x512x1 : Shape := ⟨3, ![3, 512, 1]⟩
abbrev S6x3x64x1 : Shape := ⟨4, ![6, 3, 64, 1]⟩
abbrev S1x1x128x16 : Shape := ⟨4, ![1, 1, 128, 16]⟩
abbrev S128x16 : Shape := ⟨2, ![128, 16]⟩
abbrev S1x128x16 : Shape := ⟨3, ![1, 128, 16]⟩
abbrev S16x128 : Shape := ⟨2, ![16, 128]⟩
abbrev S1x16x128 : Shape := ⟨3, ![1, 16, 128]⟩
abbrev S64x64 : Shape := ⟨2, ![64, 64]⟩
abbrev S128x128 : Shape := ⟨2, ![128, 128]⟩
abbrev S1x64 : Shape := ⟨2, ![1, 64]⟩
abbrev S64x1 : Shape := ⟨2, ![64, 1]⟩
abbrev S1x1x64x1 : Shape := ⟨4, ![1, 1, 64, 1]⟩
abbrev S1x1x128 : Shape := ⟨3, ![1, 1, 128]⟩
abbrev S1x128 : Shape := ⟨2, ![1, 128]⟩
abbrev S128x1 : Shape := ⟨2, ![128, 1]⟩
abbrev S1x128x1 : Shape := ⟨3, ![1, 128, 1]⟩
abbrev S1x3x64x1 : Shape := ⟨4, ![1, 3, 64, 1]⟩
abbrev S3x64x1 : Shape := ⟨3, ![3, 64, 1]⟩
abbrev S128x4096 : Shape := ⟨2, ![128, 4096]⟩
abbrev S1x64x64 : Shape := ⟨3, ![1, 64, 64]⟩
abbrev S1x64x1 : Shape := ⟨3, ![1, 64, 1]⟩
abbrev S1x64x512 : Shape := ⟨3, ![1, 64, 512]⟩
abbrev S64x512 : Shape := ⟨2, ![64, 512]⟩
abbrev S512x4096 : Shape := ⟨2, ![512, 4096]⟩
abbrev S1x512x1 : Shape := ⟨3, ![1, 512, 1]⟩
abbrev S512x1 : Shape := ⟨2, ![512, 1]⟩
abbrev S4096 : Shape := ⟨1, ![4096]⟩
abbrev S1x4096 : Shape := ⟨2, ![1, 4096]⟩
abbrev S1x512x64 : Shape := ⟨3, ![1, 512, 64]⟩
abbrev S512x64 : Shape := ⟨2, ![512, 64]⟩
abbrev S1x64x4096 : Shape := ⟨3, ![1, 64, 4096]⟩
abbrev S1 : Shape := ⟨1, ![1]⟩
abbrev S1x1x1 : Shape := ⟨3, ![1, 1, 1]⟩
abbrev S1x384x384x64 : Shape := ⟨4, ![1, 384, 384, 64]⟩

abbrev nBuf : Space → Nat
  | .hbm => 26
  | .vmem => 22
  | .smem => 1
  | _ => 0

abbrev bufTy : (tb : Table) → Fin (tcTables nBuf tb) → BufTy
  | .hbm, ⟨0, _⟩ => ⟨S1x64x384x384, .f32⟩
  | .hbm, ⟨1, _⟩ => ⟨S3x64x64, .f32⟩
  | .hbm, ⟨2, _⟩ => ⟨S3x64, .f32⟩
  | .hbm, ⟨3, _⟩ => ⟨S3x64x64, .f32⟩
  | .hbm, ⟨4, _⟩ => ⟨S3x64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S3x64x64, .f32⟩
  | .hbm, ⟨10, _⟩ => ⟨S3x64, .f32⟩
  | .hbm, ⟨11, _⟩ => ⟨S3x64x64, .f32⟩
  | .hbm, ⟨12, _⟩ => ⟨S3x64, .f32⟩
  | .hbm, ⟨13, _⟩ => ⟨S3x4x128x16, .f32⟩
  | .hbm, ⟨14, _⟩ => ⟨S64x147456, .f32⟩
  | .hbm, ⟨15, _⟩ => ⟨S3x4x128x16, .f32⟩
  | .hbm, ⟨16, _⟩ => ⟨S_, .f32⟩
  | .hbm, ⟨17, _⟩ => ⟨S3x4x128, .f32⟩
  | .hbm, ⟨18, _⟩ => ⟨S147456x64, .f32⟩
  | .hbm, ⟨19, _⟩ => ⟨S1x1, .f32⟩
  | .hbm, ⟨20, _⟩ => ⟨S1x384x384x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S64x4096, .f32⟩
  | .local _ .vmem, ⟨1, _⟩ => ⟨S64x4096, .f32⟩
  | .local _ .vmem, ⟨2, _⟩ => ⟨S3x64x64, .f32⟩
  | .local _ .vmem, ⟨3, _⟩ => ⟨S3x64, .f32⟩
  | .local _ .vmem, ⟨4, _⟩ => ⟨S3x64x64, .f32⟩
  | .local _ .vmem, ⟨5, _⟩ => ⟨S3x64, .f32⟩
  | .local _ .vmem, ⟨6, _⟩ => ⟨S3x64x64, .f32⟩
  | .local _ .vmem, ⟨7, _⟩ => ⟨S3x64, .f32⟩
  | .local _ .vmem, ⟨8, _⟩ => ⟨S3x64x64, .f32⟩
  | .local _ .vmem, ⟨9, _⟩ => ⟨S3x64, .f32⟩
  | .local _ .vmem, ⟨10, _⟩ => ⟨S3x64x64, .f32⟩
  | .local _ .vmem, ⟨11, _⟩ => ⟨S3x64, .f32⟩
  | .local _ .vmem, ⟨12, _⟩ => ⟨S3x64x64, .f32⟩
  | .local _ .vmem, ⟨13, _⟩ => ⟨S3x64, .f32⟩
  | .local _ .vmem, ⟨14, _⟩ => ⟨S3x4x128x16, .f32⟩
  | .local _ .vmem, ⟨15, _⟩ => ⟨S3x4x128, .f32⟩
  | .local _ .vmem, ⟨16, _⟩ => ⟨S4096x64, .f32⟩
  | .local _ .vmem, ⟨17, _⟩ => ⟨S4096x64, .f32⟩
  | .local _ .vmem, ⟨18, _⟩ => ⟨S3x64x512, .f32⟩
  | .local _ .vmem, ⟨19, _⟩ => ⟨S3x512x64, .f32⟩
  | .local _ .vmem, ⟨20, _⟩ => ⟨S3x512x1, .f32⟩
  | .local _ .vmem, ⟨21, _⟩ => ⟨S6x3x64x1, .f32⟩
  | .local _ .smem, ⟨0, _⟩ => ⟨S1x1, .f32⟩
  | _, _ => ⟨S1x64x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_cst_1 : Ref sig .tc := ⟨.hbm, 24, rfl⟩
abbrev main_v7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg16_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18

abbrev nD : Nat := 1
abbrev τ : Topo := Topo.v7x

variable {F : FTy → Type} [FloatOps F]

abbrev grid0 : Pipeline.Grid := ⟨1, ![36], ![false]⟩

def k0_cond2 (i : grid0.Coords) : BitVec 1 :=
  let arg0 : BitVec 32 := BitVec.ofNat 32 (i 0).val
  let c0_i32_186 : BitVec 32 := 0#32
  let v397 : BitVec 1 := Scalar.cmpi .eq arg0 c0_i32_186
  let v398 : BitVec 32 := Scalar.extui v397
  let c0_i32_187 : BitVec 32 := 0#32
  let v399 : BitVec 1 := Scalar.cmpi .ne v398 c0_i32_187
  v399

def k0_cond3 (i : grid0.Coords) : BitVec 1 :=
  let arg0 : BitVec 32 := BitVec.ofNat 32 (i 0).val
  let c0_i32_188 : BitVec 32 := 0#32
  let v400 : BitVec 1 := Scalar.cmpi .ne arg0 c0_i32_188
  let v401 : BitVec 32 := Scalar.extui v400
  let c0_i32_189 : BitVec 32 := 0#32
  let v402 : BitVec 1 := Scalar.cmpi .ne v401 c0_i32_189
  v402

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x4x128x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4096x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S1x64x384x384 : Shape := ⟨4, ![1, 64, 384, 384]⟩
abbrev S3x64x64 : Shape := ⟨3, ![3, 64, 64]⟩
abbrev S3x64 : Shape := ⟨2, ![3, 64]⟩
abbrev S3x4x128x16 : Shape := ⟨4, ![3, 4, 128, 16]⟩
abbrev S1x384x384x64 : Shape := ⟨4, ![1, 384, 384, 64]⟩
abbrev S147456x64 : Shape := ⟨2, ![147456, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S147456x4x16 : Shape := ⟨3, ![147456, 4, 16]⟩
abbrev S1x4x128x16 : Shape := ⟨4, ![1, 4, 128, 16]⟩
abbrev S4x128x16 : Shape := ⟨3, ![4, 128, 16]⟩
abbrev S_ : Shape := ⟨0, ![]⟩
abbrev S147456x4 : Shape := ⟨2, ![147456, 4]⟩
abbrev S147456x4x1 : Shape := ⟨3, ![147456, 4, 1]⟩
abbrev S4x128x147456 : Shape := ⟨3, ![4, 128, 147456]⟩
abbrev S147456x4x128 : Shape := ⟨3, ![147456, 4, 128]⟩
abbrev S4x128 : Shape := ⟨2, ![4, 128]⟩
abbrev S1x4x128 : Shape := ⟨3, ![1, 4, 128]⟩
abbrev S4 : Shape := ⟨1, ![4]⟩
abbrev S1x4 : Shape := ⟨2, ![1, 4]⟩
abbrev S147456x4x2 : Shape := ⟨3, ![147456, 4, 2]⟩

abbrev nBuf : Space → Nat
  | .hbm => 380
  | .vmem => 0
  | .smem => 0
  | _ => 0

abbrev hbmTy0_0 (i : Nat) : BufTy := match i % 128 with
  | 0 => ⟨S1x64x384x384, .f32⟩
  | 1 => ⟨S3x64x64, .f32⟩
  | 2 => ⟨S3x64, .f32⟩
  | 3 => ⟨S3x64x64, .f32⟩
  | 4 => ⟨S3x64, .f32⟩
  | 5 => ⟨S3x64x64, .f32⟩
  | 6 => ⟨S3x64, .f32⟩
  | 7 => ⟨S3x64x64, .f32⟩
  | 8 => ⟨S3x64, .f32⟩
  | 9 => ⟨S3x64x64, .f32⟩
  | 10 => ⟨S3x64, .f32⟩
  | 11 => ⟨S3x64x64, .f32⟩
  | 12 => ⟨S3x64, .f32⟩
  | 13 => ⟨S3x4x128x16, .f32⟩
  | 14 => ⟨S1x384x384x64, .f32⟩
  | 15 => ⟨S147456x64, .f32⟩
  | 16 => ⟨S1x64x64, .f32⟩
  | 17 => ⟨S64x64, .f32⟩
  | 18 => ⟨S64x64, .f32⟩
  | 19 => ⟨S147456x64, .f32⟩
  | 20 => ⟨S1x64, .f32⟩
  | 21 => ⟨S64, .f32⟩
  | 22 => ⟨S1x64, .f32⟩
  | 23 => ⟨S147456x64, .f32⟩
  | 24 => ⟨S147456x64, .f32⟩
  | 25 => ⟨S1x64x64, .f32⟩
  | 26 => ⟨S64x64, .f32⟩
  | 27 => ⟨S64x64, .f32⟩
  | 28 => ⟨S147456x64, .f32⟩
  | 29 => ⟨S1x64, .f32⟩
  | 30 => ⟨S64, .f32⟩
  | 31 => ⟨S1x64, .f32⟩
  | 32 => ⟨S147456x64, .f32⟩
  | 33 => ⟨S147456x64, .f32⟩
  | 34 => ⟨S147456x4x16, .f32⟩
  | 35 => ⟨S1x4x128x16, .f32⟩
  | 36 => ⟨S4x128x16, .f32⟩
  | 37 => ⟨S147456x4x16, .f32⟩
  | 38 => ⟨S_, .f32⟩
  | 39 => ⟨S147456x4, .f32⟩
  | 40 => ⟨S147456x4x1, .f32⟩
  | 41 => ⟨S4x128x147456, .f32⟩
  | 42 => ⟨S147456x4x128, .f32⟩
  | 43 => ⟨S_, .f32⟩
  | 44 => ⟨S147456x4x128, .f32⟩
  | 45 => ⟨S147456x4x128, .f32⟩
  | 46 => ⟨S147456x4x128, .f32⟩
  | 47 => ⟨S147456x4x128, .f32⟩
  | 48 => ⟨S4x128x16, .f32⟩
  | 49 => ⟨S_, .f32⟩
  | 50 => ⟨S4x128, .f32⟩
  | 51 => ⟨S1x4x128, .f32⟩
  | 52 => ⟨S147456x4x128, .f32⟩
  | 53 => ⟨S147456x4x128, .f32⟩
  | 54 => ⟨S147456x4x128, .i32⟩
  | 55 => ⟨S_, .f32⟩
  | 56 => ⟨S_, .i32⟩
  | 57 => ⟨S147456x4, .f32⟩
  | 58 => ⟨S147456x4, .i32⟩
  | 59 => ⟨S4, .i32⟩
  | 60 => ⟨S1x4, .i32⟩
  | 61 => ⟨S_, .i32⟩
  | 62 => ⟨S1x4, .i32⟩
  | 63 => ⟨S1x4, .i1⟩
  | 64 => ⟨S_, .i32⟩
  | 65 => ⟨S1x4, .i32⟩
  | 66 => ⟨S1x4, .i32⟩
  | 67 => ⟨S1x4, .i32⟩
  | 68 => ⟨S_, .i32⟩
  | 69 => ⟨S147456x4, .i32⟩
  | 70 => ⟨S147456x4, .i1⟩
  | 71 => ⟨S_, .i32⟩
  | 72 => ⟨S147456x4, .i32⟩
  | 73 => ⟨S147456x4, .i32⟩
  | 74 => ⟨S147456x4, .i32⟩
  | 75 => ⟨S147456x4, .i32⟩
  | 76 => ⟨S147456x4x1, .i32⟩
  | 77 => ⟨S147456x4x1, .i32⟩
  | 78 => ⟨S147456x4x2, .i32⟩
  | 79 => ⟨S147456x4x16, .f32⟩
  | 80 => ⟨S147456x64, .f32⟩
  | 81 => ⟨S147456x64, .f32⟩
  | 82 => ⟨S147456x64, .f32⟩
  | 83 => ⟨S147456x64, .f32⟩
  | 84 => ⟨S147456x64, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S147456x64, .f32⟩
  | 92 => ⟨S147456x64, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S1x64x64, .f32⟩
  | 101 => ⟨S64x64, .f32⟩
  | 102 => ⟨S64x64, .f32⟩
  | 103 => ⟨S147456x64, .f32⟩
  | 104 => ⟨S1x64, .f32⟩
  | 105 => ⟨S64, .f32⟩
  | 106 => ⟨S1x64, .f32⟩
  | 107 => ⟨S147456x64, .f32⟩
  | 108 => ⟨S147456x64, .f32⟩
  | 109 => ⟨S1x64x64, .f32⟩
  | 110 => ⟨S64x64, .f32⟩
  | 111 => ⟨S64x64, .f32⟩
  | 112 => ⟨S147456x64, .f32⟩
  | 113 => ⟨S1x64, .f32⟩
  | 114 => ⟨S64, .f32⟩
  | 115 => ⟨S1x64, .f32⟩
  | 116 => ⟨S147456x64, .f32⟩
  | 117 => ⟨S147456x64, .f32⟩
  | 118 => ⟨S1x64x64, .f32⟩
  | 119 => ⟨S64x64, .f32⟩
  | 120 => ⟨S64x64, .f32⟩
  | 121 => ⟨S147456x64, .f32⟩
  | 122 => ⟨S1x64, .f32⟩
  | 123 => ⟨S64, .f32⟩
  | 124 => ⟨S1x64, .f32⟩
  | 125 => ⟨S147456x64, .f32⟩
  | 126 => ⟨S147456x64, .f32⟩
  | 127 => ⟨S147456x4x16, .f32⟩
  | _ => ⟨S1x64x384x384, .f32⟩

abbrev hbmTy0_1 (i : Nat) : BufTy := match i % 128 with
  | 0 => ⟨S1x4x128x16, .f32⟩
  | 1 => ⟨S4x128x16, .f32⟩
  | 2 => ⟨S147456x4x16, .f32⟩
  | 3 => ⟨S_, .f32⟩
  | 4 => ⟨S147456x4, .f32⟩
  | 5 => ⟨S147456x4x1, .f32⟩
  | 6 => ⟨S4x128x147456, .f32⟩
  | 7 => ⟨S147456x4x128, .f32⟩
  | 8 => ⟨S_, .f32⟩
  | 9 => ⟨S147456x4x128, .f32⟩
  | 10 => ⟨S147456x4x128, .f32⟩
  | 11 => ⟨S147456x4x128, .f32⟩
  | 12 => ⟨S147456x4x128, .f32⟩
  | 13 => ⟨S4x128x16, .f32⟩
  | 14 => ⟨S_, .f32⟩
  | 15 => ⟨S4x128, .f32⟩
  | 16 => ⟨S1x4x128, .f32⟩
  | 17 => ⟨S147456x4x128, .f32⟩
  | 18 => ⟨S147456x4x128, .f32⟩
  | 19 => ⟨S147456x4x128, .i32⟩
  | 20 => ⟨S_, .f32⟩
  | 21 => ⟨S_, .i32⟩
  | 22 => ⟨S147456x4, .f32⟩
  | 23 => ⟨S147456x4, .i32⟩
  | 24 => ⟨S4, .i32⟩
  | 25 => ⟨S1x4, .i32⟩
  | 26 => ⟨S_, .i32⟩
  | 27 => ⟨S1x4, .i32⟩
  | 28 => ⟨S1x4, .i1⟩
  | 29 => ⟨S_, .i32⟩
  | 30 => ⟨S1x4, .i32⟩
  | 31 => ⟨S1x4, .i32⟩
  | 32 => ⟨S1x4, .i32⟩
  | 33 => ⟨S_, .i32⟩
  | 34 => ⟨S147456x4, .i32⟩
  | 35 => ⟨S147456x4, .i1⟩
  | 36 => ⟨S_, .i32⟩
  | 37 => ⟨S147456x4, .i32⟩
  | 38 => ⟨S147456x4, .i32⟩
  | 39 => ⟨S147456x4, .i32⟩
  | 40 => ⟨S147456x4, .i32⟩
  | 41 => ⟨S147456x4x1, .i32⟩
  | 42 => ⟨S147456x4x1, .i32⟩
  | 43 => ⟨S147456x4x2, .i32⟩
  | 44 => ⟨S147456x4x16, .f32⟩
  | 45 => ⟨S147456x64, .f32⟩
  | 46 => ⟨S147456x64, .f32⟩
  | 47 => ⟨S147456x64, .f32⟩
  | 48 => ⟨S147456x64, .f32⟩
  | 49 => ⟨S147456x64, .f32⟩
  | 50 => ⟨S_, .f32⟩
  | 51 => ⟨S_, .f32⟩
  | 52 => ⟨S_, .f32⟩
  | 53 => ⟨S_, .f32⟩
  | 54 => ⟨S_, .f32⟩
  | 55 => ⟨S147456x64, .f32⟩
  | 56 => ⟨S147456x64, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S1x64x64, .f32⟩
  | 65 => ⟨S64x64, .f32⟩
  | 66 => ⟨S64x64, .f32⟩
  | 67 => ⟨S147456x64, .f32⟩
  | 68 => ⟨S1x64, .f32⟩
  | 69 => ⟨S64, .f32⟩
  | 70 => ⟨S1x64, .f32⟩
  | 71 => ⟨S147456x64, .f32⟩
  | 72 => ⟨S147456x64, .f32⟩
  | 73 => ⟨S1x64x64, .f32⟩
  | 74 => ⟨S64x64, .f32⟩
  | 75 => ⟨S64x64, .f32⟩
  | 76 => ⟨S147456x64, .f32⟩
  | 77 => ⟨S1x64, .f32⟩
  | 78 => ⟨S64, .f32⟩
  | 79 => ⟨S1x64, .f32⟩
  | 80 => ⟨S147456x64, .f32⟩
  | 81 => ⟨S147456x64, .f32⟩
  | 82 => ⟨S1x64x64, .f32⟩
  | 83 => ⟨S64x64, .f32⟩
  | 84 => ⟨S64x64, .f32⟩
  | 85 => ⟨S147456x64, .f32⟩
  | 86 => ⟨S1x64, .f32⟩
  | 87 => ⟨S64, .f32⟩
  | 88 => ⟨S1x64, .f32⟩
  | 89 => ⟨S147456x64, .f32⟩
  | 90 => ⟨S147456x64, .f32⟩
  | 91 => ⟨S147456x4x16, .f32⟩
  | 92 => ⟨S1x4x128x16, .f32⟩
  | 93 => ⟨S4x128x16, .f32⟩
  | 94 => ⟨S147456x4x16, .f32⟩
  | 95 => ⟨S_, .f32⟩
  | 96 => ⟨S147456x4, .f32⟩
  | 97 => ⟨S147456x4x1, .f32⟩
  | 98 => ⟨S4x128x147456, .f32⟩
  | 99 => ⟨S147456x4x128, .f32⟩
  | 100 => ⟨S_, .f32⟩
  | 101 => ⟨S147456x4x128, .f32⟩
  | 102 => ⟨S147456x4x128, .f32⟩
  | 103 => ⟨S147456x4x128, .f32⟩
  | 104 => ⟨S147456x4x128, .f32⟩
  | 105 => ⟨S4x128x16, .f32⟩
  | 106 => ⟨S_, .f32⟩
  | 107 => ⟨S4x128, .f32⟩
  | 108 => ⟨S1x4x128, .f32⟩
  | 109 => ⟨S147456x4x128, .f32⟩
  | 110 => ⟨S147456x4x128, .f32⟩
  | 111 => ⟨S147456x4x128, .i32⟩
  | 112 => ⟨S_, .f32⟩
  | 113 => ⟨S_, .i32⟩
  | 114 => ⟨S147456x4, .f32⟩
  | 115 => ⟨S147456x4, .i32⟩
  | 116 => ⟨S4, .i32⟩
  | 117 => ⟨S1x4, .i32⟩
  | 118 => ⟨S_, .i32⟩
  | 119 => ⟨S1x4, .i32⟩
  | 120 => ⟨S1x4, .i1⟩
  | 121 => ⟨S_, .i32⟩
  | 122 => ⟨S1x4, .i32⟩
  | 123 => ⟨S1x4, .i32⟩
  | 124 => ⟨S1x4, .i32⟩
  | 125 => ⟨S_, .i32⟩
  | 126 => ⟨S147456x4, .i32⟩
  | 127 => ⟨S147456x4, .i1⟩
  | _ => ⟨S1x64x384x384, .f32⟩

abbrev hbmTy0_2 (i : Nat) : BufTy := match i % 128 with
  | 0 => ⟨S_, .i32⟩
  | 1 => ⟨S147456x4, .i32⟩
  | 2 => ⟨S147456x4, .i32⟩
  | 3 => ⟨S147456x4, .i32⟩
  | 4 => ⟨S147456x4, .i32⟩
  | 5 => ⟨S147456x4x1, .i32⟩
  | 6 => ⟨S147456x4x1, .i32⟩
  | 7 => ⟨S147456x4x2, .i32⟩
  | 8 => ⟨S147456x4x16, .f32⟩
  | 9 => ⟨S147456x64, .f32⟩
  | 10 => ⟨S147456x64, .f32⟩
  | 11 => ⟨S147456x64, .f32⟩
  | 12 => ⟨S147456x64, .f32⟩
  | 13 => ⟨S147456x64, .f32⟩
  | 14 => ⟨S_, .f32⟩
  | 15 => ⟨S_, .f32⟩
  | 16 => ⟨S_, .f32⟩
  | 17 => ⟨S_, .f32⟩
  | 18 => ⟨S_, .f32⟩
  | 19 => ⟨S147456x64, .f32⟩
  | 20 => ⟨S147456x64, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S1x64x64, .f32⟩
  | 29 => ⟨S64x64, .f32⟩
  | 30 => ⟨S64x64, .f32⟩
  | 31 => ⟨S147456x64, .f32⟩
  | 32 => ⟨S1x64, .f32⟩
  | 33 => ⟨S64, .f32⟩
  | 34 => ⟨S1x64, .f32⟩
  | 35 => ⟨S147456x64, .f32⟩
  | 36 => ⟨S147456x64, .f32⟩
  | 37 => ⟨S_, .f32⟩
  | 38 => ⟨S147456x64, .f32⟩
  | 39 => ⟨S1x64x64, .f32⟩
  | 40 => ⟨S64x64, .f32⟩
  | 41 => ⟨S64x64, .f32⟩
  | 42 => ⟨S147456x64, .f32⟩
  | 43 => ⟨S1x64, .f32⟩
  | 44 => ⟨S64, .f32⟩
  | 45 => ⟨S1x64, .f32⟩
  | 46 => ⟨S147456x64, .f32⟩
  | 47 => ⟨S147456x64, .f32⟩
  | 48 => ⟨S1x64x64, .f32⟩
  | 49 => ⟨S64x64, .f32⟩
  | 50 => ⟨S64x64, .f32⟩
  | 51 => ⟨S147456x64, .f32⟩
  | 52 => ⟨S1x64, .f32⟩
  | 53 => ⟨S64, .f32⟩
  | 54 => ⟨S1x64, .f32⟩
  | 55 => ⟨S147456x64, .f32⟩
  | 56 => ⟨S147456x64, .f32⟩
  | 57 => ⟨S147456x64, .f32⟩
  | 58 => ⟨S1x64x64, .f32⟩
  | 59 => ⟨S64x64, .f32⟩
  | 60 => ⟨S64x64, .f32⟩
  | 61 => ⟨S147456x64, .f32⟩
  | 62 => ⟨S1x64, .f32⟩
  | 63 => ⟨S64, .f32⟩
  | 64 => ⟨S1x64, .f32⟩
  | 65 => ⟨S147456x64, .f32⟩
  | 66 => ⟨S147456x64, .f32⟩
  | 67 => ⟨S1x64x64, .f32⟩
  | 68 => ⟨S64x64, .f32⟩
  | 69 => ⟨S64x64, .f32⟩
  | 70 => ⟨S147456x64, .f32⟩
  | 71 => ⟨S1x64, .f32⟩
  | 72 => ⟨S64, .f32⟩
  | 73 => ⟨S1x64, .f32⟩
  | 74 => ⟨S147456x64, .f32⟩
  | 75 => ⟨S147456x64, .f32⟩
  | 76 => ⟨S1x64x64, .f32⟩
  | 77 => ⟨S64x64, .f32⟩
  | 78 => ⟨S64x64, .f32⟩
  | 79 => ⟨S147456x64, .f32⟩
  | 80 => ⟨S1x64, .f32⟩
  | 81 => ⟨S64, .f32⟩
  | 82 => ⟨S1x64, .f32⟩
  | 83 => ⟨S147456x64, .f32⟩
  | 84 => ⟨S147456x64, .f32⟩
  | 85 => ⟨S147456x64, .f32⟩
  | 86 => ⟨S1x64x64, .f32⟩
  | 87 => ⟨S64x64, .f32⟩
  | 88 => ⟨S64x64, .f32⟩
  | 89 => ⟨S147456x64, .f32⟩
  | 90 => ⟨S1x64, .f32⟩
  | 91 => ⟨S64, .f32⟩
  | 92 => ⟨S1x64, .f32⟩
  | 93 => ⟨S147456x64, .f32⟩
  | 94 => ⟨S147456x64, .f32⟩
  | 95 => ⟨S1x64x64, .f32⟩
  | 96 => ⟨S64x64, .f32⟩
  | 97 => ⟨S64x64, .f32⟩
  | 98 => ⟨S147456x64, .f32⟩
  | 99 => ⟨S1x64, .f32⟩
  | 100 => ⟨S64, .f32⟩
  | 101 => ⟨S1x64, .f32⟩
  | 102 => ⟨S147456x64, .f32⟩
  | 103 => ⟨S147456x64, .f32⟩
  | 104 => ⟨S1x64x64, .f32⟩
  | 105 => ⟨S64x64, .f32⟩
  | 106 => ⟨S64x64, .f32⟩
  | 107 => ⟨S147456x64, .f32⟩
  | 108 => ⟨S1x64, .f32⟩
  | 109 => ⟨S64, .f32⟩
  | 110 => ⟨S1x64, .f32⟩
  | 111 => ⟨S147456x64, .f32⟩
  | 112 => ⟨S147456x64, .f32⟩
  | 113 => ⟨S147456x64, .f32⟩
  | 114 => ⟨S1x64x64, .f32⟩
  | 115 => ⟨S64x64, .f32⟩
  | 116 => ⟨S64x64, .f32⟩
  | 117 => ⟨S147456x64, .f32⟩
  | 118 => ⟨S1x64, .f32⟩
  | 119 => ⟨S64, .f32⟩
  | 120 => ⟨S1x64, .f32⟩
  | 121 => ⟨S147456x64, .f32⟩
  | 122 => ⟨S147456x64, .f32⟩
  | 123 => ⟨S1x384x384x64, .f32⟩
  | _ => ⟨S1x64x384x384, .f32⟩

abbrev hbmTy (i : Nat) : BufTy := match i / 128 with
  | 0 => hbmTy0_0 i
  | 1 => hbmTy0_1 i
  | 2 => hbmTy0_2 i
  | _ => ⟨S1x64x384x384, .f32⟩

abbrev bufTy : (tb : Table) → Fin (tcTables nBuf tb) → BufTy
  | .hbm, ⟨i, _⟩ => hbmTy i
  | _, _ => ⟨S1x64x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_cst : Ref sig .tc := ⟨.hbm, 55, rfl⟩
abbrev main_call0_c : Ref sig .tc := ⟨.hbm, 56, rfl⟩
abbrev main_call0_v1_0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c : Ref sig .tc := ⟨.hbm, 61, rfl⟩
abbrev main_v40 : Ref sig .tc := ⟨.hbm, 62, rfl⟩
abbrev main_v41 : Ref sig .tc := ⟨.hbm, 63, rfl⟩
abbrev main_c_2 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_3 : Ref sig .tc := ⟨.hbm, 68, rfl⟩
abbrev main_v45 : Ref sig .tc := ⟨.hbm, 69, rfl⟩
abbrev main_v46 : Ref sig .tc := ⟨.hbm, 70, rfl⟩
abbrev main_c_4 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_5 : Ref sig .tc := ⟨.hbm, 85, rfl⟩
abbrev main_v60 : Ref sig .tc := ⟨.hbm, 86, rfl⟩
abbrev main_cst_6 : Ref sig .tc := ⟨.hbm, 87, rfl⟩
abbrev main_v61 : Ref sig .tc := ⟨.hbm, 88, rfl⟩
abbrev main_cst_7 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_8 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_11 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_12 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_13 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_call1_v0 : Ref sig .tc := ⟨.hbm, 147, rfl⟩
abbrev main_call1_cst : Ref sig .tc := ⟨.hbm, 148, rfl⟩
abbrev main_call1_c : Ref sig .tc := ⟨.hbm, 149, rfl⟩
abbrev main_call1_v1_0 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_c_14 : Ref sig .tc := ⟨.hbm, 154, rfl⟩
abbrev main_v116 : Ref sig .tc := ⟨.hbm, 155, rfl⟩
abbrev main_v117 : Ref sig .tc := ⟨.hbm, 156, rfl⟩
abbrev main_c_15 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_16 : Ref sig .tc := ⟨.hbm, 161, rfl⟩
abbrev main_v121 : Ref sig .tc := ⟨.hbm, 162, rfl⟩
abbrev main_v122 : Ref sig .tc := ⟨.hbm, 163, rfl⟩
abbrev main_c_17 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_cst_18 : Ref sig .tc := ⟨.hbm, 178, rfl⟩
abbrev main_v136 : Ref sig .tc := ⟨.hbm, 179, rfl⟩
abbrev main_cst_19 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_20 : Ref sig .tc := ⟨.hbm, 185, rfl⟩
abbrev main_v141 : Ref sig .tc := ⟨.hbm, 186, rfl⟩
abbrev main_cst_21 : Ref sig .tc := ⟨.hbm, 187, rfl⟩
abbrev main_v142 : Ref sig .tc := ⟨.hbm, 188, rfl⟩
abbrev main_cst_22 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_23 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_24 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_25 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_call2_v0 : Ref sig .tc := ⟨.hbm, 239, rfl⟩
abbrev main_call2_cst : Ref sig .tc := ⟨.hbm, 240, rfl⟩
abbrev main_call2_c : Ref sig .tc := ⟨.hbm, 241, rfl⟩
abbrev main_call2_v1_0 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_c_26 : Ref sig .tc := ⟨.hbm, 246, rfl⟩
abbrev main_v192 : Ref sig .tc := ⟨.hbm, 247, rfl⟩
abbrev main_v193 : Ref sig .tc := ⟨.hbm, 248, rfl⟩
abbrev main_c_27 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_c_28 : Ref sig .tc := ⟨.hbm, 253, rfl⟩
abbrev main_v197 : Ref sig .tc := ⟨.hbm, 254, rfl⟩
abbrev main_v198 : Ref sig .tc := ⟨.hbm, 255, rfl⟩
abbrev main_c_29 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_cst_30 : Ref sig .tc := ⟨.hbm, 270, rfl⟩
abbrev main_v212 : Ref sig .tc := ⟨.hbm, 271, rfl⟩
abbrev main_cst_31 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_cst_32 : Ref sig .tc := ⟨.hbm, 277, rfl⟩
abbrev main_v217 : Ref sig .tc := ⟨.hbm, 278, rfl⟩
abbrev main_cst_33 : Ref sig .tc := ⟨.hbm, 279, rfl⟩
abbrev main_v218 : Ref sig .tc := ⟨.hbm, 280, rfl⟩
abbrev main_cst_34 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_cst_35 : Ref sig .tc := ⟨.hbm, 293, rfl⟩
abbrev main_v230 : Ref sig .tc := ⟨.hbm, 294, rfl⟩
abbrev main_v231 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_v250 : Ref sig .tc := ⟨.hbm, 314, rfl⟩
abbrev main_v251 : Ref sig .tc := ⟨.hbm, 315, rfl⟩
abbrev main_v252 : Ref sig .tc := ⟨.hbm, 316, rfl⟩
abbrev main_v253 : Ref sig .tc := ⟨.hbm, 317, rfl⟩
abbrev main_v254 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_v269 : Ref sig .tc := ⟨.hbm, 333, rfl⟩
abbrev main_v270 : Ref sig .tc := ⟨.hbm, 334, rfl⟩
abbrev main_v271 : Ref sig .tc := ⟨.hbm, 335, rfl⟩
abbrev main_v272 : Ref sig .tc := ⟨.hbm, 336, rfl⟩
abbrev main_v273 : Ref sig .tc := ⟨.hbm, 337, rfl⟩
abbrev main_v274 : Ref sig .tc := ⟨.hbm, 338, rfl⟩
abbrev main_v275 : Ref sig .tc := ⟨.hbm, 339, rfl⟩
abbrev main_v276 : Ref sig .tc := ⟨.hbm, 340, rfl⟩
abbrev main_v277 : Ref sig .tc := ⟨.hbm, 341, rfl⟩
abbrev main_v278 : Ref sig .tc := ⟨.hbm, 342, rfl⟩
abbrev main_v279 : Ref sig .tc := ⟨.hbm, 343, rfl⟩
abbrev main_v280 : Ref sig .tc := ⟨.hbm, 344, rfl⟩
abbrev main_v281 : Ref sig .tc := ⟨.hbm, 345, rfl⟩
abbrev main_v282 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_v303 : Ref sig .tc := ⟨.hbm, 367, rfl⟩
abbrev main_v304 : Ref sig .tc := ⟨.hbm, 368, rfl⟩
abbrev main_v305 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_v312 : Ref sig .tc := ⟨.hbm, 376, rfl⟩
abbrev main_v313 : Ref sig .tc := ⟨.hbm, 377, rfl⟩
abbrev main_v314 : Ref sig .tc := ⟨.hbm, 378, rfl⟩
abbrev main_v315 : Ref sig .tc := ⟨.hbm, 379, rfl⟩

abbrev nD : Nat := 1
abbrev τ : Topo := Topo.v7x

variable {F : FTy → Type} [FloatOps F]
-- ==== Proof.Ker.Stages.lean ====
/- What one grid point computes from its block of tokens, written once for all levels and segments. -/
module

public import proofs.«01_k».proof.Proof.Gen.KernelIdeal.Frame
public import Idealize.ShloMosaic.Lib.Pipeline.ValueKit
public import Idealize.ShloMosaic.Lib.Tactic

@[expose] public section

noncomputable section

namespace Cert.KernelIdeal.Body

open Cert.KernelIdeal Cert.KernelIdeal.Gen Idealize.ShloMosaic Idealize.ShloMosaic.TcCoe Idealize.SL.Sem

variable {F : FTy → Type} [FloatOps F]

/-- A level's matrix lies inside the stack of the three levels' matrices. -/
theorem inW : ∀ (l : Fin 3) (a : Fin 3), (![l.val, 0, 0] : Fin 3 → Nat) a + S1x64x64.size a ≤ S3x64x64.size a := by decide

/-- A level's wide table lies inside the stack of the three levels' wide tables. -/
theorem inD : ∀ (l : Fin 3) (a : Fin 3), (![l.val, 0, 0] : Fin 3 → Nat) a + S1x64x512.size a ≤ S3x64x512.size a := by decide

/-- A level's tall table lies inside the stack of the three levels' tall tables. -/
theorem inG : ∀ (l : Fin 3) (a : Fin 3), (![l.val, 0, 0] : Fin 3 → Nat) a + S1x512x64.size a ≤ S3x512x64.size a := by decide

/-- A level's column of squared norms lies inside the stack of the three levels' columns. -/
theorem inQ : ∀ (l : Fin 3) (a : Fin 3), (![l.val, 0, 0] : Fin 3 → Nat) a + S1x512x1.size a ≤ S3x512x1.size a := by decide

/-- A layer's bias columns lie inside the stack of the six layers' bias columns. -/
theorem inB : ∀ (j : Fin 6) (a : Fin 4), (![j.val, 0, 0, 0] : Fin 4 → Nat) a + S1x3x64x1.size a ≤ S6x3x64x1.size a := by decide

/-- A level's bias column is a slice of the three levels' columns. -/
theorem sliceL : ∀ l : Fin 3, S3x64x1.Slices ![l.val, 0, 0] S1x64x1 := by decide

/-- A segment's rows are a slice of the rows of all four segments. -/
theorem sliceR : ∀ s : Fin 4, S512x4096.Slices ![128 * s.val, 0] S128x4096 := by decide

/-- A segment's squared norms are a slice of the squared norms of all four segments. -/
theorem sliceN : ∀ s : Fin 4, S512x1.Slices ![128 * s.val, 0] S128x1 := by decide

/-- What a grid point reads: its block of tokens, the six stacks of matrices and the four tables kept between points. -/
structure Ins (F : FTy → Type) [FloatOps F] where
  x : Vec F S64x4096 .f32
  enc : Vec F S3x64x64 .f32
  quant : Vec F S3x64x64 .f32
  lat : Vec F S3x64x64 .f32
  deq : Vec F S3x64x64 .f32
  res : Vec F S3x64x64 .f32
  side : Vec F S3x64x64 .f32
  bd : Vec F S3x64x512 .f32
  bg : Vec F S3x512x64 .f32
  csq : Vec F S3x512x1 .f32
  bias : Vec F S6x3x64x1 .f32

/-- A level's matrix. -/
def mat (l : Fin 3) (W : Vec F S3x64x64 .f32) : FVec F S64x64 .f32 :=
  shapeCast S64x64 (View.ld W (Rect.unit ![l.val, 0, 0] ![1, 64, 64] (inW l)) : Vec F S1x64x64 .f32) shapeCasts_S1x64x64_S64x64

/-- A matrix times a block of tokens. -/
def mm (W : FVec F S64x64 .f32) (x : FVec F S64x4096 .f32) : FVec F S64x4096 .f32 :=
  matmul dot_S64x64_S64x4096_S64x4096_1_0_0_1_n_n none W x (constant S64x4096 .f32 0x00000000#32)

/-- The bias of layer `j` and level `l`, the same for every token. -/
def bias (j : Fin 6) (l : Fin 3) (B : Vec F S6x3x64x1 .f32) : FVec F S64x4096 .f32 :=
  broadcastTo S64x4096
    (shapeCast S64x1
      (extractStridedSlice S1x64x1 ![l.val, 0, 0]
        (shapeCast S3x64x1 (View.ld B (Rect.unit ![j.val, 0, 0, 0] ![1, 3, 64, 1] (inB j)) : Vec F S1x3x64x1 .f32) shapeCasts_S1x3x64x1_S3x64x1)
        (sliceL l))
      shapeCasts_S1x64x1_S64x1)
    broadcasts_S64x1_S64x4096

/-- A linear layer. -/
def lin (j : Fin 6) (l : Fin 3) (W : Vec F S3x64x64 .f32) (B : Vec F S6x3x64x1 .f32) (x : FVec F S64x4096 .f32) : FVec F S64x4096 .f32 :=
  addf (mm (mat l W) x) (bias j l B)

/-- The cross terms of the distances of a block of tokens to all codewords of all segments. -/
def cross (l : Fin 3) (D : Vec F S3x64x512 .f32) (q : FVec F S64x4096 .f32) : FVec F S512x4096 .f32 :=
  matmul dot_S64x512_S64x4096_S512x4096_0_0_1_1_n_n none
    (shapeCast S64x512 (View.ld D (Rect.unit ![l.val, 0, 0] ![1, 64, 512] (inD l)) : Vec F S1x64x512 .f32) shapeCasts_S1x64x512_S64x512)
    q (constant S512x4096 .f32 0x00000000#32)

/-- A segment's distances up to a term that is the same for all codewords. -/
def score (l : Fin 3) (s : Fin 4) (C : Vec F S3x512x1 .f32) (cr : FVec F S512x4096 .f32) : FVec F S128x4096 .f32 :=
  addf (extractStridedSlice S128x4096 ![128 * s.val, 0] cr (sliceR s))
    (broadcastTo S128x4096
      (extractStridedSlice S128x1 ![128 * s.val, 0]
        (shapeCast S512x1 (View.ld C (Rect.unit ![l.val, 0, 0] ![1, 512, 1] (inQ l)) : Vec F S1x512x1 .f32) shapeCasts_S1x512x1_S512x1)
        (sliceN s))
      broadcasts_S128x1_S128x4096)

/-- Every row's number. -/
def rowNum : FVec F S128x4096 .f32 := k0_pay86

/-- The smallest entry of every column. -/
def low (v : FVec F S128x4096 .f32) : FVec F S1x4096 .f32 :=
  shapeCast S1x4096 (multiReduction .minimumf [0] S4096 v 0x7F800000#32 reduces_S128x4096_S4096 (.inl rfl) rfl) shapeCasts_S4096_S1x4096

/-- The first row that holds its column's smallest entry. -/
def first (d : FVec F S128x4096 .f32) : FVec F S1x4096 .f32 :=
  low (select (cmpf .oeq d (broadcastTo S128x4096 (low d) broadcasts_S1x4096_S128x4096)) rowNum
    (broadcast S128x4096 (Scalar.ofBits .f32 0x43000000#32)))

/-- One in the row named, zero elsewhere. -/
def hot (i : FVec F S1x4096 .f32) : FVec F S128x4096 .f32 :=
  sitofp .f32 (extui 32 (cmpf .oeq rowNum (broadcastTo S128x4096 i broadcasts_S1x4096_S128x4096)) natLt_1_32)

/-- The four segments' marks, one under the other. -/
def marks (h0 h1 h2 h3 : FVec F S128x4096 .f32) : FVec F S512x4096 .f32 :=
  concatenate S512x4096 0 [⟨S128x4096, h0⟩, ⟨S128x4096, h1⟩, ⟨S128x4096, h2⟩, ⟨S128x4096, h3⟩]
    concatenates_S128x4096_S128x4096_S128x4096_S128x4096_S512x4096_d0

/-- The marks of the nearest codewords of a block of tokens. -/
def nearest (l : Fin 3) (C : Vec F S3x512x1 .f32) (cr : FVec F S512x4096 .f32) : FVec F S512x4096 .f32 :=
  marks (hot (first (score l 0 C cr))) (hot (first (score l 1 C cr))) (hot (first (score l 2 C cr))) (hot (first (score l 3 C cr)))

/-- The marked codewords. -/
def fetch (l : Fin 3) (G : Vec F S3x512x64 .f32) (o : FVec F S512x4096 .f32) : FVec F S64x4096 .f32 :=
  matmul dot_S512x64_S512x4096_S64x4096_0_0_1_1_n_n none
    (shapeCast S512x64 (View.ld G (Rect.unit ![l.val, 0, 0] ![1, 512, 64] (inG l)) : Vec F S1x512x64 .f32) shapeCasts_S1x512x64_S512x64)
    o (constant S64x4096 .f32 0x00000000#32)

/-- The sum of the squared differences of two blocks. -/
def sq (q h : FVec F S64x4096 .f32) : F .f32 :=
  extractAt ![0, 0, 0]
    (shapeCast S1x1x1
      (multiReduction .add [1, 2] S1 (shapeCast S1x64x4096 (mulf (subf q h) (subf q h)) shapeCasts_S64x4096_S1x64x4096) 0x00000000#32
        reduces_S1x64x4096_S1 (.inl rfl) rfl)
      shapeCasts_S1_S1x1x1)
    inpos_S1x1x1_p0_0_0

/-- The latent of a level. -/
def zOf (p : Ins F) (l : Fin 3) (x : FVec F S64x4096 .f32) : FVec F S64x4096 .f32 := lin 0 l p.enc p.bias x

/-- The vector to quantize at a level. -/
def qOf (p : Ins F) (l : Fin 3) (x : FVec F S64x4096 .f32) : FVec F S64x4096 .f32 := lin 1 l p.quant p.bias (zOf p l x)

/-- What the next level starts from. -/
def nextOf (p : Ins F) (l : Fin 3) (x : FVec F S64x4096 .f32) : FVec F S64x4096 .f32 := lin 2 l p.lat p.bias (zOf p l x)

/-- The codewords a level picks. -/
def hardOf (p : Ins F) (l : Fin 3) (x : FVec F S64x4096 .f32) : FVec F S64x4096 .f32 :=
  fetch l p.bg (nearest l p.csq (cross l p.bd (qOf p l x)))

/-- What the first level starts from. -/
def x0 (p : Ins F) : FVec F S64x4096 .f32 := shapeCast S64x4096 p.x shapeCasts_S64x4096_S64x4096

/-- What the second level starts from. -/
def x1 (p : Ins F) : FVec F S64x4096 .f32 := nextOf p 0 (x0 p)

/-- What the third level starts from. -/
def x2 (p : Ins F) : FVec F S64x4096 .f32 := nextOf p 1 (x1 p)

/-- The restored vector of a level from its codewords and the side input. -/
def restOf (p : Ins F) (l : Fin 3) (h y : FVec F S64x4096 .f32) : FVec F S64x4096 .f32 :=
  lin 4 l p.res p.bias (addf (addf (lin 3 l p.deq p.bias h) (mm (mat l p.side) y)) (bias 5 l p.bias))

/-- The restored vector of the last level, which has no side input. -/
def lastOf (p : Ins F) (h : FVec F S64x4096 .f32) : FVec F S64x4096 .f32 :=
  lin 4 2 p.res p.bias (addf (lin 3 2 p.deq p.bias h) (bias 5 2 p.bias))

/-- The block of restored tokens. -/
def outOf (p : Ins F) : FVec F S4096x64 .f32 :=
  transpose S4096x64 [1, 0]
    (restOf p 0 (hardOf p 0 (x0 p)) (restOf p 1 (hardOf p 1 (x1 p)) (lastOf p (hardOf p 2 (x2 p)))))
    transposes_S64x4096_p1_0_S4096x64

/-- The block's squared error, all three levels together. -/
def lossOf (p : Ins F) : F .f32 :=
  Scalar.addf
    (Scalar.addf
      (Scalar.addf (Scalar.ofBits .f32 0x00000000#32) (sq (qOf p 0 (x0 p)) (hardOf p 0 (x0 p))))
      (sq (qOf p 1 (x1 p)) (hardOf p 1 (x1 p))))
    (sq (qOf p 2 (x2 p)) (hardOf p 2 (x2 p)))

variable (m : (ℓ : Loc nD τ sig) → Buf (Elt F) ℓ)

/-- What grid point `t` reads when the tables hold `d`, `g`, `q` and `b`. -/
def ins (c : Dev nD) (t : Fin cfg0.N) (d : Vec F S3x64x512 .f32) (g : Vec F S3x512x64 .f32) (q : Vec F S3x512x1 .f32)
    (b : Vec F S6x3x64x1 .f32) : Ins F where
  x := iblk m c 0 t
  enc := iblk m c 1 t
  quant := iblk m c 3 t
  lat := iblk m c 5 t
  deq := iblk m c 7 t
  res := iblk m c 9 t
  side := iblk m c 11 t
  bd := d
  bg := g
  csq := q
  bias := b

end Cert.KernelIdeal.Body

end
-- ==== Proof.Ker.Step.lean ====
/- What a grid point after the first leaves: its block of restored tokens, the loss so far, and the tables as they were. -/
module

public import proofs.«01_k».proof.Proof.Ker.Stages

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- What grid point `t` reads when the tables hold what the point before left. -/
def insAt (c : Dev nD) (t : Fin cfg0.N) : Ins F :=
  ins m c t (outsAt0 m c (t.val - 1) (by omega)).2.2.1 (outsAt0 m c (t.val - 1) (by omega)).2.2.2.1
    (outsAt0 m c (t.val - 1) (by omega)).2.2.2.2.1 (outsAt0 m c (t.val - 1) (by omega)).2.2.2.2.2

/-- A later point's block of restored tokens. -/
theorem step_out (c : Dev nD) (t : Fin cfg0.N) (h0 : ¬t.val % 36 = 0) (h2 : 1 ≤ t.val) :
    (outsAt0 m c t.val t.isLt).1 = outOf (insAt m c t) := by
  rw [outsAt0_B m c t h0 h0 h2]
  frame_out
  simp only [(Memref.isWhole_whole _).read_unread]
  rfl

/-- There is one index of a one by one array. -/
theorem one_idx (i j : S1x1.Idx) : i = j :=
  funext fun a => match a with
    | 0 => Subsingleton.elim (α := Fin 1) _ _
    | 1 => Subsingleton.elim (α := Fin 1) _ _

set_option maxHeartbeats 1000000 in
/-- A later point adds its block's squared error to the loss so far. -/
theorem step_loss (c : Dev nD) (t : Fin cfg0.N) (h0 : ¬t.val % 36 = 0) (h2 : 1 ≤ t.val) :
    (outsAt0 m c t.val t.isLt).2.1 =
      fun j => Scalar.addf ((outsAt0 m c (t.val - 1) (by omega)).2.1 (ix2 0 0)) (lossOf (insAt m c t)) := by
  rw [outsAt0_B m c t h0 h0 h2]
  frame_out
  simp only [(Memref.isWhole_whole _).read_unread]
  refine funext fun j => ?_
  delta k0_pay1
  refine congrArg₂ (fun u v : F .f32 => Scalar.addf u v) ?_ ?_
  · exact congrArg (outsAt0 m c (t.val - 1) (by omega)).2.1 (one_idx _ _)
  · delta k0_pay149 k0_pay146
    refine congrArg₂ (fun u v : F .f32 => Scalar.addf u v) (congrArg₂ (fun u v : F .f32 => Scalar.addf u v) (congrArg₂ (fun u v : F .f32 => Scalar.addf u v) rfl ?_) ?_) ?_
    · exact congrArg₂ sq rfl rfl
    · exact congrArg₂ sq rfl rfl
    · exact congrArg₂ sq rfl rfl

/-- A later point keeps the tables. -/
theorem step_tables (c : Dev nD) (t : Fin cfg0.N) (h0 : ¬t.val % 36 = 0) (h2 : 1 ≤ t.val) :
    (outsAt0 m c t.val t.isLt).2.2 = (outsAt0 m c (t.val - 1) (by omega)).2.2 := by
  rw [outsAt0_B m c t h0 h0 h2]
  rfl

end Cert.KernelIdeal.Body

end
-- ==== Proof.Ker.First.lean ====
/- What the first grid point leaves: its block of restored tokens and its squared error, from the tables it builds. -/
module

public import proofs.«01_k».proof.Proof.Ker.Stages

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- A load after stores into a buffer that held nothing reads what the stores put together. -/
theorem load_stores {s : Shape} {e : EltTy} {Val : EltTy → Type} [∀ e, Nonempty (Val e)] {sig : RefSig} {κ : Kind} {sp : Space}
    (v : View sig κ sp s e) (L : List (View.Piece Val s e)) (r : Rect s) : v.readCov L r.toLoadRect = View.ld (View.canon L) r :=
  View.readCov_eq_canon' v L r.toLoadRect

set_option maxHeartbeats 1000000 in
/-- The first point's block of restored tokens, from the tables as it leaves them. -/
theorem first_out (c : Dev nD) (t : Fin cfg0.N) (h0 : t.val % 36 = 0) (h2 : ¬1 ≤ t.val) (D G Q B)
    (hD : (outsAt0 m c t.val t.isLt).2.2.1 = D) (hG : (outsAt0 m c t.val t.isLt).2.2.2.1 = G)
    (hQ : (outsAt0 m c t.val t.isLt).2.2.2.2.1 = Q) (hB : (outsAt0 m c t.val t.isLt).2.2.2.2.2 = B) :
    (outsAt0 m c t.val t.isLt).1 = outOf (ins m c t D G Q B) := by
  rw [outsAt0_A m c t h0 h0 h2] at hD hG hQ hB ⊢
  frame_out
  frame_out at hD
  frame_out at hG
  frame_out at hQ
  frame_out at hB
  simp only [load_stores, hD, hG, hQ, hB]
  rfl

set_option maxHeartbeats 1000000 in
/-- The first point's loss is its block's squared error, from the tables as it leaves them. -/
theorem first_loss (c : Dev nD) (t : Fin cfg0.N) (h0 : t.val % 36 = 0) (h2 : ¬1 ≤ t.val) (D G Q B)
    (hD : (outsAt0 m c t.val t.isLt).2.2.1 = D) (hG : (outsAt0 m c t.val t.isLt).2.2.2.1 = G)
    (hQ : (outsAt0 m c t.val t.isLt).2.2.2.2.1 = Q) (hB : (outsAt0 m c t.val t.isLt).2.2.2.2.2 = B) :
    (outsAt0 m c t.val t.isLt).2.1 = fun _ => lossOf (ins m c t D G Q B) := by
  rw [outsAt0_A m c t h0 h0 h2] at hD hG hQ hB ⊢
  frame_out
  frame_out at hD
  frame_out at hG
  frame_out at hQ
  frame_out at hB
  simp only [load_stores, hD, hG, hQ, hB]
  refine funext fun j => ?_
  delta k0_pay149 k0_pay146
  refine congrArg₂ (fun u v : F .f32 => Scalar.addf u v)
    (congrArg₂ (fun u v : F .f32 => Scalar.addf u v) (congrArg₂ (fun u v : F .f32 => Scalar.addf u v) rfl ?_) ?_) ?_
  · exact congrArg₂ sq rfl rfl
  · exact congrArg₂ sq rfl rfl
  · exact congrArg₂ sq rfl rfl

end Cert.KernelIdeal.Body

end
-- ==== Proof.Ker.Pieces.lean ====
/- The four tables the first grid point builds, piece by piece. -/
module

public import proofs.«01_k».proof.Proof.Ker.Stages

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- Stores that each agree with `G` leave `G` wherever one of them reaches, and wherever what was there before agrees with `G`. -/
theorem canon_map {s : Shape} {e : EltTy} {Val : EltTy → Type} [∀ e, Nonempty (Val e)] {ι : Type} (G : s.Idx → Val e)
    (P : ι → View.Piece Val s e) (hP : ∀ k, ∀ x, (P k).2 x = G ((P k).1.emb x)) (base : List (View.Piece Val s e)) (y : s.Idx) :
    ∀ ks : List ι, ((∃ k ∈ ks, y ∈ (P k).1.set) ∨ View.canon base y = G y) → View.canon (ks.map P ++ base) y = G y
  | [], h => h.elim (fun ⟨_, hk, _⟩ => absurd hk List.not_mem_nil) id
  | k :: ks, h => by
    rw [List.map_cons, List.cons_append]
    by_cases hy : y ∈ (P k).1.set
    · obtain ⟨x, rfl⟩ := (P k).1.exists_idx_of_mem hy
      exact (View.canon_cons_emb (P k).1 (P k).2 _ x).trans (hP k x)
    · rw [View.canon_cons_of_not_mem _ _ hy]
      refine canon_map G P hP base y ks (h.imp_left ?_)
      rintro ⟨k', hk, hy'⟩
      rcases List.mem_cons.mp hk with rfl | hk
      · exact absurd hy' hy
      · exact ⟨k', hk, hy'⟩

/-- The levels and segments, the last first. -/
def pairs : List (Fin 3 × Fin 4) :=
  [(2, 3), (2, 2), (2, 1), (2, 0), (1, 3), (1, 2), (1, 1), (1, 0), (0, 3), (0, 2), (0, 1), (0, 0)]

/-- All levels and segments are listed. -/
theorem mem_pairs : ∀ k : Fin 3 × Fin 4, k ∈ pairs := by decide

/-- The layers and levels, the last first. -/
def layers : List (Fin 6 × Fin 3) :=
  [(5, 2), (5, 1), (5, 0), (4, 2), (4, 1), (4, 0), (3, 2), (3, 1), (3, 0), (2, 2), (2, 1), (2, 0), (1, 2), (1, 1), (1, 0),
    (0, 2), (0, 1), (0, 0)]

/-- All layers and levels are listed. -/
theorem mem_layers : ∀ k : Fin 6 × Fin 3, k ∈ layers := by decide

/-- A segment's codebook lies inside the stack of all codebooks. -/
theorem inC : ∀ (k : Fin 3 × Fin 4) (a : Fin 4),
    (![k.1.val, k.2.val, 0, 0] : Fin 4 → Nat) a + S1x1x128x16.size a ≤ S3x4x128x16.size a := by decide

/-- A segment's squared norms lie inside the stack of all squared norms. -/
theorem inN : ∀ (k : Fin 3 × Fin 4) (a : Fin 3), (![k.1.val, k.2.val, 0] : Fin 3 → Nat) a + S1x1x128.size a ≤ S3x4x128.size a := by decide

/-- A level's bias lies inside the stack of the three levels' biases. -/
theorem inL : ∀ (l : Fin 3) (a : Fin 2), (![l.val, 0] : Fin 2 → Nat) a + S1x64.size a ≤ S3x64.size a := by decide

/-- A segment's place in the wide table. -/
theorem atD : ∀ (k : Fin 3 × Fin 4) (a : Fin 3),
    (![k.1.val, 16 * k.2.val, 128 * k.2.val] : Fin 3 → Nat) a + S1x16x128.size a ≤ S3x64x512.size a := by decide

/-- A segment's place in the tall table. -/
theorem atG : ∀ (k : Fin 3 × Fin 4) (a : Fin 3),
    (![k.1.val, 128 * k.2.val, 16 * k.2.val] : Fin 3 → Nat) a + S1x128x16.size a ≤ S3x512x64.size a := by decide

/-- A segment's place in the column of squared norms. -/
theorem atQ : ∀ (k : Fin 3 × Fin 4) (a : Fin 3),
    (![k.1.val, 128 * k.2.val, 0] : Fin 3 → Nat) a + S1x128x1.size a ≤ S3x512x1.size a := by decide

/-- A layer's place in the bias columns. -/
theorem atB : ∀ (k : Fin 6 × Fin 3) (a : Fin 4),
    (![k.1.val, k.2.val, 0, 0] : Fin 4 → Nat) a + S1x1x64x1.size a ≤ S6x3x64x1.size a := by decide

/-- A segment's codebook. -/
def words (k : Fin 3 × Fin 4) (C : Vec F S3x4x128x16 .f32) : FVec F S128x16 .f32 :=
  shapeCast S128x16 (View.ld C (Rect.unit ![k.1.val, k.2.val, 0, 0] ![1, 1, 128, 16] (inC k)) : Vec F S1x1x128x16 .f32)
    shapeCasts_S1x1x128x16_S128x16

/-- What a segment stores into the wide table: its codebook, transposed and times minus two. -/
def putD (k : Fin 3 × Fin 4) (C : Vec F S3x4x128x16 .f32) : FVec F S1x16x128 .f32 :=
  shapeCast S1x16x128
    (mulf (broadcast S16x128 (Scalar.ofBits .f32 0xC0000000#32)) (transpose S16x128 [1, 0] (words k C) transposes_S128x16_p1_0_S16x128))
    shapeCasts_S16x128_S1x16x128

/-- What a segment stores into the tall table: its codebook. -/
def putG (k : Fin 3 × Fin 4) (C : Vec F S3x4x128x16 .f32) : FVec F S1x128x16 .f32 :=
  shapeCast S1x128x16 (words k C) shapeCasts_S128x16_S1x128x16

/-- What a segment stores into the column of squared norms: its row of squared norms, turned. -/
def putQ (k : Fin 3 × Fin 4) (N : Vec F S3x4x128 .f32) : FVec F S1x128x1 .f32 :=
  shapeCast S1x128x1
    (matmul dot_S128x128_S1x128_S128x1_1_1_0_0_n_n none k0_pay44
      (shapeCast S1x128 (View.ld N (Rect.unit ![k.1.val, k.2.val, 0] ![1, 1, 128] (inN k)) : Vec F S1x1x128 .f32) shapeCasts_S1x1x128_S1x128)
      (constant S128x1 .f32 0x00000000#32))
    shapeCasts_S128x1_S1x128x1

/-- What a layer stores into the bias columns: its row of biases, turned. -/
def putB (k : Fin 6 × Fin 3) (b : Fin 6 → Vec F S3x64 .f32) : FVec F S1x1x64x1 .f32 :=
  shapeCast S1x1x64x1
    (matmul dot_S64x64_S1x64_S64x1_1_1_0_0_n_n none k0_pay43
      (View.ld (b k.1) (Rect.unit ![k.2.val, 0] ![1, 64] (inL k.2)) : Vec F S1x64 .f32) (constant S64x1 .f32 0x00000000#32))
    shapeCasts_S64x1_S1x1x64x1

variable (m : (ℓ : Loc nD τ sig) → Buf (Elt F) ℓ)

/-- The six layers' biases as a grid point reads them. -/
def biases (c : Dev nD) (t : Fin cfg0.N) : Fin 6 → Vec F S3x64 .f32 :=
  ![iblk m c 2 t, iblk m c 4 t, iblk m c 6 t, iblk m c 8 t, iblk m c 10 t, iblk m c 12 t]

/-- A segment's store into the wide table. -/
def pieceD (C : Vec F S3x4x128x16 .f32) (k : Fin 3 × Fin 4) : View.Piece (Elt F) S3x64x512 .f32 :=
  ⟨Rect.unit ![k.1.val, 16 * k.2.val, 128 * k.2.val] ![1, 16, 128] (atD k), putD k C⟩

/-- A segment's store into the tall table. -/
def pieceG (C : Vec F S3x4x128x16 .f32) (k : Fin 3 × Fin 4) : View.Piece (Elt F) S3x512x64 .f32 :=
  ⟨Rect.unit ![k.1.val, 128 * k.2.val, 16 * k.2.val] ![1, 128, 16] (atG k), putG k C⟩

/-- A segment's store into the column of squared norms. -/
def pieceQ (N : Vec F S3x4x128 .f32) (k : Fin 3 × Fin 4) : View.Piece (Elt F) S3x512x1 .f32 :=
  ⟨Rect.unit ![k.1.val, 128 * k.2.val, 0] ![1, 128, 1] (atQ k), putQ k N⟩

/-- A layer's store into the bias columns. -/
def pieceB (b : Fin 6 → Vec F S3x64 .f32) (k : Fin 6 × Fin 3) : View.Piece (Elt F) S6x3x64x1 .f32 :=
  ⟨Rect.unit ![k.1.val, k.2.val, 0, 0] ![1, 1, 64, 1] (atB k), putB k b⟩

/-- The wide table starts as zeros. -/
def zeroD : View.Piece (Elt F) S3x64x512 .f32 := ⟨Rect.unit ![0, 0, 0] ![3, 64, 512] inb_S3x64x512_S3x64x512_0_0_0, k0_pay2⟩

/-- The tall table starts as zeros. -/
def zeroG : View.Piece (Elt F) S3x512x64 .f32 := ⟨Rect.unit ![0, 0, 0] ![3, 512, 64] inb_S3x512x64_S3x512x64_0_0_0, k0_pay3⟩

/-- The wide table as the first point leaves it. -/
theorem first_D (c : Dev nD) (t : Fin cfg0.N) (h0 : t.val % 36 = 0) (h2 : ¬1 ≤ t.val) :
    (outsAt0 m c t.val t.isLt).2.2.1 = View.canon (pairs.map (pieceD (iblk m c 13 t)) ++ [zeroD]) := by
  rw [outsAt0_A m c t h0 h0 h2]
  frame_out
  rfl

/-- The tall table as the first point leaves it. -/
theorem first_G (c : Dev nD) (t : Fin cfg0.N) (h0 : t.val % 36 = 0) (h2 : ¬1 ≤ t.val) :
    (outsAt0 m c t.val t.isLt).2.2.2.1 = View.canon (pairs.map (pieceG (iblk m c 13 t)) ++ [zeroG]) := by
  rw [outsAt0_A m c t h0 h0 h2]
  frame_out
  rfl

/-- The column of squared norms as the first point leaves it. -/
theorem first_Q (c : Dev nD) (t : Fin cfg0.N) (h0 : t.val % 36 = 0) (h2 : ¬1 ≤ t.val) :
    (outsAt0 m c t.val t.isLt).2.2.2.2.1 = View.canon (pairs.map (pieceQ (iblk m c 14 t)) ++ []) := by
  rw [outsAt0_A m c t h0 h0 h2]
  frame_out
  rfl

/-- The bias columns as the first point leaves them. -/
theorem first_B (c : Dev nD) (t : Fin cfg0.N) (h0 : t.val % 36 = 0) (h2 : ¬1 ≤ t.val) :
    (outsAt0 m c t.val t.isLt).2.2.2.2.2 = View.canon (layers.map (pieceB (biases m c t)) ++ []) := by
  rw [outsAt0_A m c t h0 h0 h2]
  frame_out
  rfl

end Cert.KernelIdeal.Body

end
-- ==== Proof.Ker.Tables.lean ====
/- The four tables entry by entry, over the extended reals. -/
module

public import proofs.«01_k».proof.Proof.Ker.Pieces
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem

/-- A load of one segment's codebook reads that codebook. -/
theorem load_words (C : (⟨4, ![3, 4, 128, 16]⟩ : Shape).Idx → EReal) (k : Fin 3 × Fin 4) (inb) (r : Fin 128) (a : Fin 16) :
    (View.ld (S := ⟨4, ![3, 4, 128, 16]⟩) (Val := Elt Ideal) (e' := .f32) C (Rect.unit ![k.1.val, k.2.val, 0, 0] ![1, 1, 128, 16] inb) :
      (⟨4, ![1, 1, 128, 16]⟩ : Shape).Idx → EReal) (ix4 0 0 r a) = C (ix4 k.1 k.2 r a) := by
  refine congrArg C (funext fun a => Fin.ext ?_)
  match a with
  | 0 => exact Nat.add_zero _
  | 1 => exact Nat.add_zero _
  | 2 => exact (Nat.zero_add _).trans (Nat.one_mul _)
  | 3 => exact (Nat.zero_add _).trans (Nat.one_mul _)

/-- A load of one segment's squared norms reads those. -/
theorem load_norms (N : (⟨3, ![3, 4, 128]⟩ : Shape).Idx → EReal) (k : Fin 3 × Fin 4) (inb) (r : Fin 128) :
    (View.ld (S := ⟨3, ![3, 4, 128]⟩) (Val := Elt Ideal) (e' := .f32) N (Rect.unit ![k.1.val, k.2.val, 0] ![1, 1, 128] inb) :
      (⟨3, ![1, 1, 128]⟩ : Shape).Idx → EReal) (ix3 0 0 r) = N (ix3 k.1 k.2 r) := by
  refine congrArg N (funext fun a => Fin.ext ?_)
  match a with
  | 0 => exact Nat.add_zero _
  | 1 => exact Nat.add_zero _
  | 2 => exact (Nat.zero_add _).trans (Nat.one_mul _)

/-- A load of one level's bias reads that. -/
theorem load_bias (b : (⟨2, ![3, 64]⟩ : Shape).Idx → EReal) (l : Fin 3) (inb) (a : Fin 64) :
    (View.ld (S := ⟨2, ![3, 64]⟩) (Val := Elt Ideal) (e' := .f32) b (Rect.unit ![l.val, 0] ![1, 64] inb) :
      (⟨2, ![1, 64]⟩ : Shape).Idx → EReal) (ix2 0 a) = b (ix2 l a) := by
  refine congrArg b (funext fun a => Fin.ext ?_)
  match a with
  | 0 => exact Nat.add_zero _
  | 1 => exact (Nat.zero_add _).trans (Nat.one_mul _)

/-- One codebook without its level and segment. -/
theorem drop_words (v : Vec Ideal S1x1x128x16 .f32) (r : Fin 128) (a : Fin 16) :
    shapeCast S128x16 v shapeCasts_S1x1x128x16_S128x16 (ix2 r a) = v (ix4 0 0 r a) := by
  pointwise

/-- One row of squared norms without its level. -/
theorem drop_norms (v : Vec Ideal S1x1x128 .f32) (r : Fin 128) :
    shapeCast S1x128 v shapeCasts_S1x1x128_S1x128 (ix2 0 r) = v (ix3 0 0 r) := by
  pointwise

/-- A segment's codebook. -/
theorem words_apply (k : Fin 3 × Fin 4) (C : Vec Ideal S3x4x128x16 .f32) (r : Fin 128) (a : Fin 16) :
    words k C (ix2 r a) = C (ix4 k.1 k.2 r a) := by
  unfold words
  rw [drop_words]
  exact load_words C k _ r a

/-- An entry stored into the wide table. -/
theorem putD_apply (k : Fin 3 × Fin 4) (C : Vec Ideal S3x4x128x16 .f32) (a : Fin 16) (r : Fin 128) :
    putD k C (ix3 0 a r) = Ideal.ofBits .f32 0xC0000000#32 * C (ix4 k.1 k.2 r a) := by
  rw [← words_apply k C r a]
  pointwise [putD]

/-- An entry stored into the tall table. -/
theorem putG_apply (k : Fin 3 × Fin 4) (C : Vec Ideal S3x4x128x16 .f32) (r : Fin 128) (a : Fin 16) :
    putG k C (ix3 0 r a) = C (ix4 k.1 k.2 r a) := by
  rw [← words_apply k C r a]
  pointwise [putG]

/-- The number of a truth value. -/
theorem truth (P : Prop) [Decidable P] :
    FloatOps.sitofp (F := Ideal) .f32 (BitVec.setWidth 32 (BitVec.ofBool (decide P))) = if P then (1 : EReal) else 0 := by
  by_cases h : P
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    norm_num

/-- Small numbers are equal when their words are. -/
theorem word_inj {a b : Nat} (ha : a < 128) (hb : b < 128) (h : BitVec.ofNat 32 a = BitVec.ofNat 32 b) : a = b := by
  have e := congrArg BitVec.toNat h
  rw [BitVec.toNat_ofNat, BitVec.toNat_ofNat, Nat.mod_eq_of_lt (by omega), Nat.mod_eq_of_lt (by omega)] at e
  exact e

/-- The unit matrix over codewords. -/
theorem unit_words (a b : Fin 128) : k0_pay44 (F := Ideal) (ix2 a b) = if a = b then 1 else 0 := by
  pointwise [k0_pay44]
  refine (truth (BitVec.ofNat 32 a.val = BitVec.ofNat 32 b.val)).trans (if_congr ?_ rfl rfl)
  exact ⟨fun h => Fin.ext (word_inj (by omega) (by omega) h), fun h => by rw [h]⟩

/-- The unit matrix over channels. -/
theorem unit_channels (a b : Fin 64) : k0_pay43 (F := Ideal) (ix2 a b) = if a = b then 1 else 0 := by
  pointwise [k0_pay43]
  refine (truth (BitVec.ofNat 32 a.val = BitVec.ofNat 32 b.val)).trans (if_congr ?_ rfl rfl)
  exact ⟨fun h => Fin.ext (word_inj (by omega) (by omega) h), fun h => by rw [h]⟩

/-- A row times the unit matrix over codewords. -/
theorem turn_words (E : FVec Ideal S128x128 .f32) (v : FVec Ideal S1x128 .f32) (r : Fin 128) :
    shapeCast S1x128x1 (matmul dot_S128x128_S1x128_S128x1_1_1_0_0_n_n none E v (constant S128x1 .f32 0x00000000#32))
      shapeCasts_S128x1_S1x128x1 (ix3 0 r 0) = ∑ j : Fin 128, E (ix2 r j) * v (ix2 0 j) := by
  pointwise

/-- A row times the unit matrix over channels. -/
theorem turn_channels (E : FVec Ideal S64x64 .f32) (v : FVec Ideal S1x64 .f32) (a : Fin 64) :
    shapeCast S1x1x64x1 (matmul dot_S64x64_S1x64_S64x1_1_1_0_0_n_n none E v (constant S64x1 .f32 0x00000000#32))
      shapeCasts_S64x1_S1x1x64x1 (ix4 0 0 a 0) = ∑ j : Fin 64, E (ix2 a j) * v (ix2 0 j) := by
  pointwise

/-- An entry stored into the column of squared norms. -/
theorem putQ_apply (k : Fin 3 × Fin 4) (N : Vec Ideal S3x4x128 .f32) (r : Fin 128) : putQ k N (ix3 0 r 0) = N (ix3 k.1 k.2 r) := by
  unfold putQ
  rw [turn_words, Finset.sum_eq_single r]
  · rw [unit_words, if_pos rfl, one_mul, drop_norms]
    exact load_norms N k _ r
  · intro j _ hj
    rw [unit_words, if_neg (Ne.symm hj), zero_mul]
  · exact fun h => absurd (Finset.mem_univ r) h

/-- An entry stored into the bias columns. -/
theorem putB_apply (k : Fin 6 × Fin 3) (b : Fin 6 → Vec Ideal S3x64 .f32) (a : Fin 64) : putB k b (ix4 0 0 a 0) = b k.1 (ix2 k.2 a) := by
  unfold putB
  rw [turn_channels, Finset.sum_eq_single a]
  · rw [unit_channels, if_pos rfl, one_mul]
    exact load_bias (b k.1) k.2 _ a
  · intro j _ hj
    rw [unit_channels, if_neg (Ne.symm hj), zero_mul]
  · exact fun h => absurd (Finset.mem_univ a) h

/-- The wide table: minus two times the codeword's coordinate where row and column belong to one segment, zero elsewhere. -/
def tabD (C : Vec Ideal S3x4x128x16 .f32) : Vec Ideal S3x64x512 .f32 := fun y =>
  if (y 1).val / 16 = (y 2).val / 128 then
    Ideal.ofBits .f32 0xC0000000#32 *
      C (ix4 (y 0) ⟨(y 1).val / 16, by have h : (y 1).val < 64 := (y 1).isLt; omega⟩ ⟨(y 2).val % 128, by omega⟩ ⟨(y 1).val % 16, by omega⟩)
  else 0

/-- The tall table: the codeword's coordinate where row and column belong to one segment, zero elsewhere. -/
def tabG (C : Vec Ideal S3x4x128x16 .f32) : Vec Ideal S3x512x64 .f32 := fun y =>
  if (y 2).val / 16 = (y 1).val / 128 then
    C (ix4 (y 0) ⟨(y 2).val / 16, by have h : (y 2).val < 64 := (y 2).isLt; omega⟩ ⟨(y 1).val % 128, by omega⟩ ⟨(y 2).val % 16, by omega⟩)
  else 0

/-- The column of squared norms. -/
def tabQ (N : Vec Ideal S3x4x128 .f32) : Vec Ideal S3x512x1 .f32 := fun y =>
  N (ix3 (y 0) ⟨(y 1).val / 128, by have h : (y 1).val < 512 := (y 1).isLt; omega⟩ ⟨(y 1).val % 128, by omega⟩)

/-- The bias columns. -/
def tabB (b : Fin 6 → Vec Ideal S3x64 .f32) : Vec Ideal S6x3x64x1 .f32 := fun y => b (y 0) (ix2 (y 1) (y 2))

/-- The wide table inside a segment. -/
theorem tabD_at (C : Vec Ideal S3x4x128x16 .f32) (l : Fin 3) (s : Fin 4) (a : Fin 16) (r : Fin 128) :
    tabD C (ix3 l ⟨16 * s.val + a.val, by omega⟩ ⟨128 * s.val + r.val, by omega⟩) =
      Ideal.ofBits .f32 0xC0000000#32 * C (ix4 l s r a) := by
  refine (if_pos (show (16 * s.val + a.val) / 16 = (128 * s.val + r.val) / 128 by omega)).trans (congrArg (fun i => _ * C i) ?_)
  refine funext fun b => Fin.ext ?_
  match b with
  | 0 => rfl
  | 1 => show (16 * s.val + a.val) / 16 = s.val; omega
  | 2 => show (128 * s.val + r.val) % 128 = r.val; omega
  | 3 => show (16 * s.val + a.val) % 16 = a.val; omega

/-- The tall table inside a segment. -/
theorem tabG_at (C : Vec Ideal S3x4x128x16 .f32) (l : Fin 3) (s : Fin 4) (r : Fin 128) (a : Fin 16) :
    tabG C (ix3 l ⟨128 * s.val + r.val, by omega⟩ ⟨16 * s.val + a.val, by omega⟩) = C (ix4 l s r a) := by
  refine (if_pos (show (16 * s.val + a.val) / 16 = (128 * s.val + r.val) / 128 by omega)).trans (congrArg C ?_)
  refine funext fun b => Fin.ext ?_
  match b with
  | 0 => rfl
  | 1 => show (16 * s.val + a.val) / 16 = s.val; omega
  | 2 => show (128 * s.val + r.val) % 128 = r.val; omega
  | 3 => show (16 * s.val + a.val) % 16 = a.val; omega

/-- The column of squared norms at a segment's codeword. -/
theorem tabQ_at (N : Vec Ideal S3x4x128 .f32) (l : Fin 3) (s : Fin 4) (r : Fin 128) :
    tabQ N (ix3 l ⟨128 * s.val + r.val, by omega⟩ 0) = N (ix3 l s r) := by
  refine congrArg N (funext fun b => Fin.ext ?_)
  match b with
  | 0 => rfl
  | 1 => show (128 * s.val + r.val) / 128 = s.val; omega
  | 2 => show (128 * s.val + r.val) % 128 = r.val; omega

/-- The stores into the wide table leave the wide table. -/
theorem canon_D (C : Vec Ideal S3x4x128x16 .f32) : View.canon (pairs.map (pieceD C) ++ [zeroD]) = tabD C := by
  funext y
  have hy1 : (y 1).val < 64 := (y 1).isLt
  have hy2 : (y 2).val < 512 := (y 2).isLt
  refine canon_map (tabD C) (pieceD C) ?_ [zeroD] y pairs ?_
  · intro k x
    have h0 : (x 0).val < 1 := (x 0).isLt
    have h1 : (x 1).val < 16 := (x 1).isLt
    have h2 : (x 2).val < 128 := (x 2).isLt
    have hx : x = (ix3 0 (x 1) (x 2) : (⟨3, ![1, 16, 128]⟩ : Shape).Idx) :=
      (eq_ix3 x).trans (congrArg (fun z => ix3 z (x 1) (x 2)) (Subsingleton.elim (α := Fin 1) (x 0) 0))
    have e : (pieceD C k).1.emb x = (ix3 k.1 ⟨16 * k.2.val + (x 1).val, by omega⟩ ⟨128 * k.2.val + (x 2).val, by omega⟩ : S3x64x512.Idx) := by
      refine funext fun a => Fin.ext ?_
      match a with
      | 0 => show k.1.val + 1 * (x 0).val = k.1.val; omega
      | 1 => exact congrArg (16 * k.2.val + ·) (Nat.one_mul _)
      | 2 => exact congrArg (128 * k.2.val + ·) (Nat.one_mul _)
    rw [e]
    exact (congrArg (putD k C) hx).trans ((putD_apply k C (x 1) (x 2)).trans (tabD_at C k.1 k.2 (x 1) (x 2)).symm)
  · by_cases h : (y 1).val / 16 = (y 2).val / 128
    · refine .inl ⟨(y 0, ⟨(y 1).val / 16, by omega⟩), mem_pairs _, (Rect.mem_set_unit (inb := atD _)).mpr fun a => ?_⟩
      match a with
      | 0 => show (y 0).val ≤ (y 0).val ∧ (y 0).val < (y 0).val + 1; omega
      | 1 => show 16 * ((y 1).val / 16) ≤ (y 1).val ∧ (y 1).val < 16 * ((y 1).val / 16) + 16; omega
      | 2 => show 128 * ((y 1).val / 16) ≤ (y 2).val ∧ (y 2).val < 128 * ((y 1).val / 16) + 128; omega
    · have z : View.canon [zeroD (F := Ideal)] = k0_pay2 (F := Ideal) :=
        View.canon_cons_unit_lit (Val := Elt Ideal) (e := .f32) inb_S3x64x512_S3x64x512_0_0_0 (k0_pay2 (F := Ideal)) [] (by decide)
      refine .inr ((congrFun z y).trans ?_)
      refine Eq.trans ?_ (if_neg h).symm
      show Ideal.ofBits .f32 0x00000000#32 = (0 : EReal)
      simp [Ideal.ofBits, Ideal.ieee]

/-- The stores into the tall table leave the tall table. -/
theorem canon_G (C : Vec Ideal S3x4x128x16 .f32) : View.canon (pairs.map (pieceG C) ++ [zeroG]) = tabG C := by
  funext y
  have hy1 : (y 1).val < 512 := (y 1).isLt
  have hy2 : (y 2).val < 64 := (y 2).isLt
  refine canon_map (tabG C) (pieceG C) ?_ [zeroG] y pairs ?_
  · intro k x
    have h0 : (x 0).val < 1 := (x 0).isLt
    have h1 : (x 1).val < 128 := (x 1).isLt
    have h2 : (x 2).val < 16 := (x 2).isLt
    have hx : x = (ix3 0 (x 1) (x 2) : (⟨3, ![1, 128, 16]⟩ : Shape).Idx) :=
      (eq_ix3 x).trans (congrArg (fun z => ix3 z (x 1) (x 2)) (Subsingleton.elim (α := Fin 1) (x 0) 0))
    have e : (pieceG C k).1.emb x = (ix3 k.1 ⟨128 * k.2.val + (x 1).val, by omega⟩ ⟨16 * k.2.val + (x 2).val, by omega⟩ : S3x512x64.Idx) := by
      refine funext fun a => Fin.ext ?_
      match a with
      | 0 => show k.1.val + 1 * (x 0).val = k.1.val; omega
      | 1 => exact congrArg (128 * k.2.val + ·) (Nat.one_mul _)
      | 2 => exact congrArg (16 * k.2.val + ·) (Nat.one_mul _)
    rw [e]
    exact (congrArg (putG k C) hx).trans ((putG_apply k C (x 1) (x 2)).trans (tabG_at C k.1 k.2 (x 1) (x 2)).symm)
  · by_cases h : (y 2).val / 16 = (y 1).val / 128
    · refine .inl ⟨(y 0, ⟨(y 2).val / 16, by omega⟩), mem_pairs _, (Rect.mem_set_unit (inb := atG _)).mpr fun a => ?_⟩
      match a with
      | 0 => show (y 0).val ≤ (y 0).val ∧ (y 0).val < (y 0).val + 1; omega
      | 1 => show 128 * ((y 2).val / 16) ≤ (y 1).val ∧ (y 1).val < 128 * ((y 2).val / 16) + 128; omega
      | 2 => show 16 * ((y 2).val / 16) ≤ (y 2).val ∧ (y 2).val < 16 * ((y 2).val / 16) + 16; omega
    · have z : View.canon [zeroG (F := Ideal)] = k0_pay3 (F := Ideal) :=
        View.canon_cons_unit_lit (Val := Elt Ideal) (e := .f32) inb_S3x512x64_S3x512x64_0_0_0 (k0_pay3 (F := Ideal)) [] (by decide)
      refine .inr ((congrFun z y).trans ?_)
      refine Eq.trans ?_ (if_neg h).symm
      show Ideal.ofBits .f32 0x00000000#32 = (0 : EReal)
      simp [Ideal.ofBits, Ideal.ieee]

/-- The stores into the column of squared norms leave that column. -/
theorem canon_Q (N : Vec Ideal S3x4x128 .f32) : View.canon (pairs.map (pieceQ N) ++ []) = tabQ N := by
  funext y
  have hy1 : (y 1).val < 512 := (y 1).isLt
  have hy2 : (y 2).val < 1 := (y 2).isLt
  refine canon_map (tabQ N) (pieceQ N) ?_ [] y pairs ?_
  · intro k x
    have h0 : (x 0).val < 1 := (x 0).isLt
    have h1 : (x 1).val < 128 := (x 1).isLt
    have h2 : (x 2).val < 1 := (x 2).isLt
    have hx : x = (ix3 0 (x 1) 0 : (⟨3, ![1, 128, 1]⟩ : Shape).Idx) :=
      (eq_ix3 x).trans (congrArg₂ (fun z w => ix3 z (x 1) w) (Subsingleton.elim (α := Fin 1) (x 0) 0) (Subsingleton.elim (α := Fin 1) (x 2) 0))
    have e : (pieceQ N k).1.emb x = (ix3 k.1 ⟨128 * k.2.val + (x 1).val, by omega⟩ 0 : S3x512x1.Idx) := by
      refine funext fun a => Fin.ext ?_
      match a with
      | 0 => show k.1.val + 1 * (x 0).val = k.1.val; omega
      | 1 => exact congrArg (128 * k.2.val + ·) (Nat.one_mul _)
      | 2 => show 0 + 1 * (x 2).val = 0; omega
    rw [e]
    exact (congrArg (putQ k N) hx).trans ((putQ_apply k N (x 1)).trans (tabQ_at N k.1 k.2 (x 1)).symm)
  · refine .inl ⟨(y 0, ⟨(y 1).val / 128, by omega⟩), mem_pairs _, (Rect.mem_set_unit (inb := atQ _)).mpr fun a => ?_⟩
    match a with
    | 0 => show (y 0).val ≤ (y 0).val ∧ (y 0).val < (y 0).val + 1; omega
    | 1 => show 128 * ((y 1).val / 128) ≤ (y 1).val ∧ (y 1).val < 128 * ((y 1).val / 128) + 128; omega
    | 2 => show 0 ≤ (y 2).val ∧ (y 2).val < 0 + 1; omega

/-- The stores into the bias columns leave the bias columns. -/
theorem canon_B (b : Fin 6 → Vec Ideal S3x64 .f32) : View.canon (layers.map (pieceB b) ++ []) = tabB b := by
  funext y
  have hy2 : (y 2).val < 64 := (y 2).isLt
  have hy3 : (y 3).val < 1 := (y 3).isLt
  refine canon_map (tabB b) (pieceB b) ?_ [] y layers ?_
  · intro k x
    have h0 : (x 0).val < 1 := (x 0).isLt
    have h1 : (x 1).val < 1 := (x 1).isLt
    have h3 : (x 3).val < 1 := (x 3).isLt
    have hx : x = (ix4 0 0 (x 2) 0 : (⟨4, ![1, 1, 64, 1]⟩ : Shape).Idx) := by
      refine funext fun a => Fin.ext ?_
      match a with
      | 0 => show (x 0).val = 0; omega
      | 1 => show (x 1).val = 0; omega
      | 2 => rfl
      | 3 => show (x 3).val = 0; omega
    have e : (pieceB b k).1.emb x = (ix4 k.1 k.2 (x 2) 0 : S6x3x64x1.Idx) := by
      refine funext fun a => Fin.ext ?_
      match a with
      | 0 => show k.1.val + 1 * (x 0).val = k.1.val; omega
      | 1 => show k.2.val + 1 * (x 1).val = k.2.val; omega
      | 2 => show 0 + 1 * (x 2).val = (x 2).val; omega
      | 3 => show 0 + 1 * (x 3).val = 0; omega
    rw [e]
    exact (congrArg (putB k b) hx).trans (putB_apply k b (x 2))
  · refine .inl ⟨(y 0, y 1), mem_layers _, (Rect.mem_set_unit (inb := atB _)).mpr fun a => ?_⟩
    match a with
    | 0 => show (y 0).val ≤ (y 0).val ∧ (y 0).val < (y 0).val + 1; omega
    | 1 => show (y 1).val ≤ (y 1).val ∧ (y 1).val < (y 1).val + 1; omega
    | 2 => show 0 ≤ (y 2).val ∧ (y 2).val < 0 + 64; omega
    | 3 => show 0 ≤ (y 3).val ∧ (y 3).val < 0 + 1; omega

end Cert.KernelIdeal.Body

end
-- ==== Proof.Ker.Blocks.lean ====
/- What the grid points read: the weights, biases and codebooks whole at every point, the tokens a block at a time. -/
module

public import proofs.«01_k».proof.Proof.Ker.Step
public import proofs.«01_k».proof.Proof.Ker.First
public import proofs.«01_k».proof.Proof.Ker.Tables
public import Idealize.ShloMosaic.Lib.Pipeline.Value

@[expose] public section

set_option maxRecDepth 16384

noncomputable section

namespace Cert.KernelIdeal.Body

open Cert.KernelIdeal Cert.KernelIdeal.Gen Idealize.ShloMosaic Idealize.ShloMosaic.TcCoe Idealize.SL.Sem

section Whole

variable {F : FTy → Type} [FloatOps F] (m : (ℓ : Loc nD τ sig) → Buf (Elt F) ℓ)

/-- Every point reads operand 1 whole. -/
theorem whole_1 (c : Dev nD) (t : Fin cfg0.N) : (iblk m c 1 t : Vec F S3x64x64 .f32) = m ((c : Thread nD τ).loc main_arg1) :=
  have h : (fun a => win0_1.index t a * main_arg1.ty.shape.size a) = fun _ => 0 := funext fun a => by fin_cases a <;> exact Nat.zero_mul _
  (Memref.read_access_unit_zero (Elt F) main_arg1 h (fun a => by rw [congrFun h a]; simp) (V m c main_arg1)).trans (V_main_arg1 m c)

/-- Every point reads operand 2 whole. -/
theorem whole_2 (c : Dev nD) (t : Fin cfg0.N) : (iblk m c 2 t : Vec F S3x64 .f32) = m ((c : Thread nD τ).loc main_arg2) :=
  have h : (fun a => win0_2.index t a * main_arg2.ty.shape.size a) = fun _ => 0 := funext fun a => by fin_cases a <;> exact Nat.zero_mul _
  (Memref.read_access_unit_zero (Elt F) main_arg2 h (fun a => by rw [congrFun h a]; simp) (V m c main_arg2)).trans (V_main_arg2 m c)

/-- Every point reads operand 3 whole. -/
theorem whole_3 (c : Dev nD) (t : Fin cfg0.N) : (iblk m c 3 t : Vec F S3x64x64 .f32) = m ((c : Thread nD τ).loc main_arg3) :=
  have h : (fun a => win0_3.index t a * main_arg3.ty.shape.size a) = fun _ => 0 := funext fun a => by fin_cases a <;> exact Nat.zero_mul _
  (Memref.read_access_unit_zero (Elt F) main_arg3 h (fun a => by rw [congrFun h a]; simp) (V m c main_arg3)).trans (V_main_arg3 m c)

/-- Every point reads operand 4 whole. -/
theorem whole_4 (c : Dev nD) (t : Fin cfg0.N) : (iblk m c 4 t : Vec F S3x64 .f32) = m ((c : Thread nD τ).loc main_arg4) :=
  have h : (fun a => win0_4.index t a * main_arg4.ty.shape.size a) = fun _ => 0 := funext fun a => by fin_cases a <;> exact Nat.zero_mul _
  (Memref.read_access_unit_zero (Elt F) main_arg4 h (fun a => by rw [congrFun h a]; simp) (V m c main_arg4)).trans (V_main_arg4 m c)

/-- Every point reads operand 5 whole. -/
theorem whole_5 (c : Dev nD) (t : Fin cfg0.N) : (iblk m c 5 t : Vec F S3x64x64 .f32) = m ((c : Thread nD τ).loc main_arg5) :=
  have h : (fun a => win0_5.index t a * main_arg5.ty.shape.size a) = fun _ => 0 := funext fun a => by fin_cases a <;> exact Nat.zero_mul _
  (Memref.read_access_unit_zero (Elt F) main_arg5 h (fun a => by rw [congrFun h a]; simp) (V m c main_arg5)).trans (V_main_arg5 m c)

/-- Every point reads operand 6 whole. -/
theorem whole_6 (c : Dev nD) (t : Fin cfg0.N) : (iblk m c 6 t : Vec F S3x64 .f32) = m ((c : Thread nD τ).loc main_arg6) :=
  have h : (fun a => win0_6.index t a * main_arg6.ty.shape.size a) = fun _ => 0 := funext fun a => by fin_cases a <;> exact Nat.zero_mul _
  (Memref.read_access_unit_zero (Elt F) main_arg6 h (fun a => by rw [congrFun h a]; simp) (V m c main_arg6)).trans (V_main_arg6 m c)

/-- Every point reads operand 7 whole. -/
theorem whole_7 (c : Dev nD) (t : Fin cfg0.N) : (iblk m c 7 t : Vec F S3x64x64 .f32) = m ((c : Thread nD τ).loc main_arg7) :=
  have h : (fun a => win0_7.index t a * main_arg7.ty.shape.size a) = fun _ => 0 := funext fun a => by fin_cases a <;> exact Nat.zero_mul _
  (Memref.read_access_unit_zero (Elt F) main_arg7 h (fun a => by rw [congrFun h a]; simp) (V m c main_arg7)).trans (V_main_arg7 m c)

/-- Every point reads operand 8 whole. -/
theorem whole_8 (c : Dev nD) (t : Fin cfg0.N) : (iblk m c 8 t : Vec F S3x64 .f32) = m ((c : Thread nD τ).loc main_arg8) :=
  have h : (fun a => win0_8.index t a * main_arg8.ty.shape.size a) = fun _ => 0 := funext fun a => by fin_cases a <;> exact Nat.zero_mul _
  (Memref.read_access_unit_zero (Elt F) main_arg8 h (fun a => by rw [congrFun h a]; simp) (V m c main_arg8)).trans (V_main_arg8 m c)

/-- Every point reads operand 9 whole. -/
theorem whole_9 (c : Dev nD) (t : Fin cfg0.N) : (iblk m c 9 t : Vec F S3x64x64 .f32) = m ((c : Thread nD τ).loc main_arg9) :=
  have h : (fun a => win0_9.index t a * main_arg9.ty.shape.size a) = fun _ => 0 := funext fun a => by fin_cases a <;> exact Nat.zero_mul _
  (Memref.read_access_unit_zero (Elt F) main_arg9 h (fun a => by rw [congrFun h a]; simp) (V m c main_arg9)).trans (V_main_arg9 m c)

/-- Every point reads operand 10 whole. -/
theorem whole_10 (c : Dev nD) (t : Fin cfg0.N) : (iblk m c 10 t : Vec F S3x64 .f32) = m ((c : Thread nD τ).loc main_arg10) :=
  have h : (fun a => win0_10.index t a * main_arg10.ty.shape.size a) = fun _ => 0 := funext fun a => by fin_cases a <;> exact Nat.zero_mul _
  (Memref.read_access_unit_zero (Elt F) main_arg10 h (fun a => by rw [congrFun h a]; simp) (V m c main_arg10)).trans (V_main_arg10 m c)

/-- Every point reads operand 11 whole. -/
theorem whole_11 (c : Dev nD) (t : Fin cfg0.N) : (iblk m c 11 t : Vec F S3x64x64 .f32) = m ((c : Thread nD τ).loc main_arg11) :=
  have h : (fun a => win0_11.index t a * main_arg11.ty.shape.size a) = fun _ => 0 := funext fun a => by fin_cases a <;> exact Nat.zero_mul _
  (Memref.read_access_unit_zero (Elt F) main_arg11 h (fun a => by rw [congrFun h a]; simp) (V m c main_arg11)).trans (V_main_arg11 m c)

/-- Every point reads operand 12 whole. -/
theorem whole_12 (c : Dev nD) (t : Fin cfg0.N) : (iblk m c 12 t : Vec F S3x64 .f32) = m ((c : Thread nD τ).loc main_arg12) :=
  have h : (fun a => win0_12.index t a * main_arg12.ty.shape.size a) = fun _ => 0 := funext fun a => by fin_cases a <;> exact Nat.zero_mul _
  (Memref.read_access_unit_zero (Elt F) main_arg12 h (fun a => by rw [congrFun h a]; simp) (V m c main_arg12)).trans (V_main_arg12 m c)

/-- Every point reads operand 13 whole. -/
theorem whole_13 (c : Dev nD) (t : Fin cfg0.N) : (iblk m c 13 t : Vec F S3x4x128x16 .f32) = m ((c : Thread nD τ).loc main_arg13) :=
  have h : (fun a => win0_13.index t a * main_arg13.ty.shape.size a) = fun _ => 0 := funext fun a => by fin_cases a <;> exact Nat.zero_mul _
  (Memref.read_access_unit_zero (Elt F) main_arg13 h (fun a => by rw [congrFun h a]; simp) (V m c main_arg13)).trans (V_main_arg13 m c)

/-- Every point reads operand 14 whole. -/
theorem whole_14 (c : Dev nD) (t : Fin cfg0.N) : (iblk m c 14 t : Vec F S3x4x128 .f32) = V m c main_v2 :=
  have h : (fun a => win0_14.index t a * main_v2.ty.shape.size a) = fun _ => 0 := funext fun a => by fin_cases a <;> exact Nat.zero_mul _
  (Memref.read_access_unit_zero (Elt F) main_v2 h (fun a => by rw [congrFun h a]; simp) (V m c main_v2))

end Whole

end Cert.KernelIdeal.Body

end
-- ==== Proof.Ker.Points.lean ====
/- What every grid point leaves: the tables, its block of restored tokens, and the loss so far. -/
module

public import proofs.«01_k».proof.Proof.Ker.Blocks

@[expose] public section

set_option maxRecDepth 16384

noncomputable section

namespace Cert.KernelIdeal.Body

open Cert.KernelIdeal Cert.KernelIdeal.Gen Idealize.ShloMosaic Idealize.ShloMosaic.TcCoe Idealize.SL.Sem

variable (m : (ℓ : Loc nD τ sig) → Buf (Elt Ideal) ℓ)

/-- The six biases as the program is given them. -/
def givenBiases (c : Dev nD) : Fin 6 → Vec Ideal S3x64 .f32 :=
  ![m ((c : Thread nD τ).loc main_arg2), m ((c : Thread nD τ).loc main_arg4), m ((c : Thread nD τ).loc main_arg6),
    m ((c : Thread nD τ).loc main_arg8), m ((c : Thread nD τ).loc main_arg10), m ((c : Thread nD τ).loc main_arg12)]

/-- What a point reads, in terms of what the program is given: its block of tokens, the weights, and the tables of the codebooks,
    their squared norms and the biases. -/
def given (c : Dev nD) (t : Fin cfg0.N) : Ins Ideal where
  x := iblk m c 0 t
  enc := m ((c : Thread nD τ).loc main_arg1)
  quant := m ((c : Thread nD τ).loc main_arg3)
  lat := m ((c : Thread nD τ).loc main_arg5)
  deq := m ((c : Thread nD τ).loc main_arg7)
  res := m ((c : Thread nD τ).loc main_arg9)
  side := m ((c : Thread nD τ).loc main_arg11)
  bd := tabD (m ((c : Thread nD τ).loc main_arg13))
  bg := tabG (m ((c : Thread nD τ).loc main_arg13))
  csq := tabQ (V m c main_v2)
  bias := tabB (givenBiases m c)

/-- The operands read at a point are the ones the program is given. -/
theorem ins_given (c : Dev nD) (t : Fin cfg0.N) :
    ins m c t (tabD (m ((c : Thread nD τ).loc main_arg13))) (tabG (m ((c : Thread nD τ).loc main_arg13))) (tabQ (V m c main_v2))
      (tabB (givenBiases m c)) = given m c t := by
  unfold ins given
  rw [whole_1, whole_3, whole_5, whole_7, whole_9, whole_11]

/-- The first point builds the four tables. -/
theorem first_tables (c : Dev nD) (t : Fin cfg0.N) (h0 : t.val % 36 = 0) (h2 : ¬1 ≤ t.val) :
    (outsAt0 m c t.val t.isLt).2.2.1 = tabD (m ((c : Thread nD τ).loc main_arg13)) ∧
    (outsAt0 m c t.val t.isLt).2.2.2.1 = tabG (m ((c : Thread nD τ).loc main_arg13)) ∧
    (outsAt0 m c t.val t.isLt).2.2.2.2.1 = tabQ (V m c main_v2) ∧
    (outsAt0 m c t.val t.isLt).2.2.2.2.2 = tabB (givenBiases m c) := by
  have hb : biases m c t = givenBiases m c := by
    unfold biases givenBiases
    rw [whole_2, whole_4, whole_6, whole_8, whole_10, whole_12]
  refine ⟨?_, ?_, ?_, ?_⟩
  · rw [first_D m c t h0 h2, canon_D, whole_13]
  · rw [first_G m c t h0 h2, canon_G, whole_13]
  · rw [first_Q m c t h0 h2, canon_Q, whole_14]
  · rw [first_B m c t h0 h2, canon_B, hb]

/-- Every point leaves the four tables in place. -/
theorem tables_at (c : Dev nD) : ∀ (n : ℕ) (h : n < cfg0.N),
    (outsAt0 m c n h).2.2.1 = tabD (m ((c : Thread nD τ).loc main_arg13)) ∧
    (outsAt0 m c n h).2.2.2.1 = tabG (m ((c : Thread nD τ).loc main_arg13)) ∧
    (outsAt0 m c n h).2.2.2.2.1 = tabQ (V m c main_v2) ∧
    (outsAt0 m c n h).2.2.2.2.2 = tabB (givenBiases m c)
  | 0, h => first_tables m c ⟨0, h⟩ rfl (by simp)
  | n + 1, h => by
    have hN : cfg0.N = 36 := N_0
    have hs := step_tables m c ⟨n + 1, h⟩ (by dsimp only; omega) (Nat.le_add_left _ _)
    have hp : (outsAt0 m c (n + 1) h).2.2 = (outsAt0 m c n (Nat.lt_of_succ_lt h)).2.2 := hs
    rw [hp]
    exact tables_at c n _

/-- A later point reads what the program is given. -/
theorem insAt_given (c : Dev nD) (t : Fin cfg0.N) : insAt m c t = given m c t := by
  obtain ⟨hD, hG, hQ, hB⟩ := tables_at m c (t.val - 1) (by omega)
  unfold insAt
  rw [hD, hG, hQ, hB, ins_given]

/-- Every point leaves its block of restored tokens. -/
theorem out_at (c : Dev nD) (t : Fin cfg0.N) : (outsAt0 m c t.val t.isLt).1 = outOf (given m c t) := by
  have hN : cfg0.N = 36 := N_0
  by_cases h : 1 ≤ t.val
  · rw [step_out m c t (by omega) h, insAt_given]
  · obtain ⟨hD, hG, hQ, hB⟩ := tables_at m c t.val t.isLt
    rw [first_out m c t (by omega) h _ _ _ _ hD hG hQ hB, ins_given]

/-- The squared error of a point's block, zero past the grid. -/
def lossAt (c : Dev nD) (n : ℕ) : EReal := if h : n < cfg0.N then lossOf (given m c ⟨n, h⟩) else 0

/-- A point leaves the squared error of the blocks so far. -/
theorem loss_at (c : Dev nD) : ∀ (n : ℕ) (h : n < cfg0.N),
    (outsAt0 m c n h).2.1 = fun _ => ∑ u ∈ Finset.range (n + 1), lossAt m c u
  | 0, h => by
    obtain ⟨hD, hG, hQ, hB⟩ := tables_at m c 0 h
    refine (first_loss m c ⟨0, h⟩ rfl (by simp) _ _ _ _ hD hG hQ hB).trans ?_
    rw [ins_given]
    refine funext fun _ => ?_
    rw [Finset.sum_range_one, lossAt, dif_pos h]
  | n + 1, h => by
    have hN : cfg0.N = 36 := N_0
    refine (step_loss m c ⟨n + 1, h⟩ (by dsimp only; omega) (Nat.le_add_left _ _)).trans ?_
    refine funext fun _ => ?_
    rw [Finset.sum_range_succ, insAt_given, lossAt, dif_pos h]
    refine congrArg (fun x : EReal => x + lossOf (given m c ⟨n + 1, h⟩)) ?_
    exact congrFun (loss_at c n (Nat.lt_of_succ_lt h)) (ix2 0 0)

end Cert.KernelIdeal.Body

end
-- ==== Proof.Ker.Host.lean ====
/- What the host lines before the kernel hand it, and what the host lines after it make of its results. -/
module

public import proofs.«01_k».proof.Proof.Ker.Points
public import Idealize.ShloMosaic.Lib.Pointwise
public import Idealize.ShloMosaic.Lib.StableHlo.Run

@[expose] public section

set_option maxRecDepth 16384

noncomputable section

namespace Cert.KernelIdeal.Body

open Cert.KernelIdeal Cert.KernelIdeal.Gen Idealize.ShloMosaic Idealize.ShloMosaic.TcCoe Idealize.SL.Sem

/-- The tokens as columns: token `n` is row `n / 384`, column `n % 384` of the feature map. -/
theorem columns_apply (x : Vec Ideal S1x64x384x384 .f32) (k : Fin 64) (n : Fin 147456) :
    shapeCast S64x147456 x shapeCasts_S1x64x384x384_S64x147456 (ix2 k n) =
      x (ix4 0 k ⟨n.val / 384, by omega⟩ ⟨n.val % 384, by omega⟩) := by
  pointwise

/-- The squared norm of a codeword, summed on the host. -/
theorem norms_apply (C : Vec Ideal S3x4x128x16 .f32) (l : Fin 3) (s : Fin 4) (r : Fin 128) :
    (Host.reduceAdd (F := Ideal) (φ := .f32) (mulf C C) (constant S_ .f32 0x00000000#32) reducesTo_S3x4x128x16_S3x4x128_d3 h_S_ :
        Vec Ideal S3x4x128 .f32) (ix3 l s r) =
      ∑ a : Fin 16, C (ix4 l s r a) * C (ix4 l s r a) := by
  pointwise

/-- The restored tokens as a map. -/
theorem map_apply (y : Vec Ideal S147456x64 .f32) (h w : Fin 384) (a : Fin 64) :
    shapeCast S1x384x384x64 y shapeCasts_S147456x64_S1x384x384x64 (ix4 0 h w a) = y (ix2 ⟨h.val * 384 + w.val, by omega⟩ a) := by
  pointwise

/-- The loss read off its one by one array. -/
theorem one_apply (y : Vec Ideal S1x1 .f32) (j : S_.Idx) : shapeCast S_ y shapeCasts_S1x1_S_ j = y (ix2 0 0) := by
  pointwise

variable (m : (ℓ : Loc nD τ sig) → Buf (Elt Ideal) ℓ)

/-- The kernel is handed the feature map with its tokens as columns. -/
theorem entry_tokens (c : Dev nD) :
    (V m c main_v0 : Vec Ideal S64x147456 .f32) = shapeCast S64x147456 (m ((c : Thread nD τ).loc main_arg0)) shapeCasts_S1x64x384x384_S64x147456 := by
  unfold V V0
  simp only [List.flatten_cons, List.flatten_nil, List.append_nil, hostOps0]
  after_results_simp
  rfl

/-- The codebooks the program is given. -/
def codes (c : Dev nD) : Vec Ideal S3x4x128x16 .f32 := m ((c : Thread nD τ).loc main_arg13)

/-- The squared norms the kernel is handed. -/
def norms (c : Dev nD) : Vec Ideal S3x4x128 .f32 := V m c main_v2

/-- The kernel is handed the squared norms of the codewords. -/
theorem entry_norms (c : Dev nD) (l : Fin 3) (s : Fin 4) (r : Fin 128) :
    norms m c (ix3 l s r) = ∑ a : Fin 16, codes m c (ix4 l s r a) * codes m c (ix4 l s r a) := by
  rw [← norms_apply]
  refine congrFun ?_ (ix3 l s r)
  unfold norms codes V V0
  simp only [List.flatten_cons, List.flatten_nil, List.append_nil, hostOps0]
  after_results_simp

/-- The restored map is the kernel's first result, reshaped. -/
theorem exit_map (W : Valuation τ sig (Elt Ideal)) :
    StableHlo.after hostOps1 W (Proc.devRef .tc main_v4) =
      shapeCast S1x384x384x64 (W (Proc.devRef .tc main_v3_0) : Vec Ideal S147456x64 .f32) shapeCasts_S147456x64_S1x384x384x64 := by
  simp only [hostOps1]
  after_results_simp
  rfl

/-- The host's last lines on the summed error: times five quarters, over the number of entries. -/
def scaled (s : EReal) : EReal := Ideal.div (s * Ideal.ofBits .f32 0x3FA00000#32) (Ideal.ofBits .f32 0x4B100000#32)

/-- The loss is the kernel's second result, times five quarters, over the number of entries. -/
theorem exit_loss (W : Valuation τ sig (Elt Ideal)) (y : Vec Ideal S1x1 .f32) (h : W (Proc.devRef .tc main_v3_1) = y) :
    (StableHlo.after hostOps1 W (Proc.devRef .tc main_v7) : Vec Ideal S_ .f32) = fun _ => scaled (y (ix2 0 0)) := by
  simp only [hostOps1]
  after_results_simp
  subst h
  refine funext fun j => ?_
  exact congrArg scaled (one_apply _ j)

end Cert.KernelIdeal.Body

end
-- ==== Proof.Ker.Arrays.lean ====
/- The kernel's run: every token of its result is its block's, and the loss is the sum over the blocks. -/
module

public import proofs.«01_k».proof.Proof.Ker.Host

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block of a token. -/
def blockOf (n : Fin 147456) : Fin cfg0.N := ⟨n.val / 4096, by have := n.isLt; rw [show cfg0.N = 36 from N_0]; omega⟩

/-- A token's place in its block. -/
def placeOf (n : Fin 147456) : Fin 4096 := ⟨n.val % 4096, by omega⟩

/-- The tokens' block index is the grid point. -/
theorem index_x : ∀ t : Fin grid0.N, win0_0.index t 0 = 0 ∧ win0_0.index t 1 = t.val := by decide +kernel

/-- The restored tokens' block index is the grid point. -/
theorem index_out : ∀ t : Fin grid0.N, win0_15.index t 0 = t.val ∧ win0_15.index t 1 = 0 := by decide +kernel

/-- The feature map the program is given. -/
def features (c : Dev nD) : Vec Ideal S1x64x384x384 .f32 := m ((c : Thread nD τ).loc main_arg0)

/-- A token's column of its block is its column of the feature map. -/
theorem block_x (c : Dev nD) (n : Fin 147456) (k : Fin 64) :
    (given m c (blockOf n)).x (ix2 k (placeOf n)) =
      features m c (ix4 0 k ⟨n.val / 384, by omega⟩ ⟨n.val % 384, by omega⟩) := by
  refine Eq.trans ?_ (columns_apply (features m c) k n)
  unfold features
  rw [← entry_tokens]
  unfold given
  dsimp only
  unfold iblk
  rw [View.read_apply]
  show V m c main_v0 _ = V m c main_v0 _
  congr 1
  funext a
  apply Fin.ext
  obtain ⟨h0, h1⟩ := index_x (blockOf n)
  match a with
  | ⟨0, _⟩ => show win0_0.index (blockOf n) 0 * 64 + 1 * k.val = k.val; rw [h0]; omega
  | ⟨1, _⟩ => show win0_0.index (blockOf n) 1 * 4096 + 1 * (n.val % 4096) = n.val; rw [h1]; show n.val / 4096 * 4096 + _ = _; omega

/-- Every token of the result, from its block. -/
def tokens (c : Dev nD) : Vec Ideal S147456x64 .f32 := fun i => outOf (given m c (blockOf (i 0))) (ix2 (placeOf (i 0)) (i 1))

/-- A block of the result is what its point leaves. -/
theorem tokens_block (c : Dev nD) (t : Fin cfg0.N) (i : S147456x64.Idx) (j : S4096x64.Idx) (h0 : (i 0).val = t.val * 4096 + (j 0).val)
    (h1 : (i 1).val = (j 1).val) : tokens m c i = outOf (given m c t) j := by
  have hj : (j 0).val < 4096 := (j 0).isLt
  have ht : blockOf (i 0) = t := Fin.ext (by show (i 0).val / 4096 = t.val; rw [h0]; omega)
  have hp : placeOf (i 0) = j 0 := Fin.ext (by show (i 0).val % 4096 = (j 0).val; rw [h0]; omega)
  have h1' : i 1 = j 1 := Fin.ext h1
  unfold tokens
  rw [ht, hp, h1']
  exact congrArg _ (eq_ix2 j).symm

/-- Every write-back of the first result writes its block of the tokens. -/
theorem flushed_out (c : Dev nD) (t : Fin cfg0.N) (_ : (cfg0.win 15).flush t = true) :
    (dats m 0 c).flushed 15 t = ((cfg0.win 15).blk t).view.read (Elt Ideal) (tokens m c) := by
  show (cfg0.win 15).cut (grid0.coords t) ((dats m 0 c).after 15 t) = _
  rw [after0_15, out_at]
  funext j
  rw [View.read_apply]
  obtain ⟨h0, h1⟩ := index_out t
  refine (tokens_block m c t _ j ?_ ?_).symm
  · show win0_15.index t 0 * 4096 + 1 * (j 0).val = _
    rw [h0]; omega
  · show win0_15.index t 1 * 64 + 1 * (j 1).val = _
    rw [h1]; omega

/-- The first result ends holding the tokens. -/
theorem final_out (c : Dev nD) : (dats m 0 c).arrAt 15 cfg0.N = tokens m c :=
  (dats m 0 c).arrAt_eq_of_cover 15 (tokens m c) (flushed_out m c) fun i =>
    ⟨blockOf (i 0), flush0_15 _, by
      show i ∈ ((View.whole main_v3_0).slice (win0_15.rect (blockOf (i 0)))).set
      rw [View.set_slice_whole, Rect.mem_set_unit]
      obtain ⟨h0, h1⟩ := index_out (blockOf (i 0))
      intro a
      have hi0 : (i 0 : Nat) < 147456 := (i 0).isLt
      have hi1 : (i 1 : Nat) < 64 := (i 1).isLt
      match a with
      | ⟨0, _⟩ => show win0_15.index (blockOf (i 0)) 0 * 4096 ≤ (i 0 : Nat) ∧ (i 0 : Nat) < win0_15.index (blockOf (i 0)) 0 * 4096 + 4096
                  rw [h0]; show (i 0).val / 4096 * 4096 ≤ _ ∧ _ < (i 0).val / 4096 * 4096 + 4096; omega
      | ⟨1, _⟩ => show win0_15.index (blockOf (i 0)) 1 * 64 ≤ (i 1 : Nat) ∧ (i 1 : Nat) < win0_15.index (blockOf (i 0)) 1 * 64 + 64
                  rw [h1]; omega⟩

/-- The loss, as the one entry of the second result. -/
def lossSum (c : Dev nD) : Vec Ideal S1x1 .f32 := fun _ => ∑ u ∈ Finset.range 36, lossAt m c u

/-- The one write-back of the second result, at the last point, writes the loss. -/
theorem flushed_loss (c : Dev nD) (t : Fin cfg0.N) (hf : (cfg0.win 16).flush t = true) :
    (dats m 0 c).flushed 16 t = ((cfg0.win 16).blk t).view.read (Elt Ideal) (lossSum m c) := by
  have hN : cfg0.N = 36 := N_0
  have h3 : t.val = 35 := by have := (flush0_16 t).mp hf; have := t.isLt; omega
  show (cfg0.win 16).cut (grid0.coords t) ((dats m 0 c).after 16 t) = _
  rw [after0_16, loss_at]
  funext j
  rw [View.read_apply]
  show _ = ∑ u ∈ Finset.range 36, lossAt m c u
  rw [h3]

/-- The last grid point. -/
def last : Fin cfg0.N := ⟨35, by rw [show cfg0.N = 36 from N_0]; decide⟩

/-- The second result ends holding the loss. -/
theorem final_loss (c : Dev nD) : (dats m 0 c).arrAt 16 cfg0.N = lossSum m c :=
  (dats m 0 c).arrAt_eq_of_cover 16 (lossSum m c) (flushed_loss m c) fun i =>
    ⟨last, (flush0_16 _).mpr rfl, by
      show i ∈ ((View.whole main_v3_1).slice (win0_16.rect last)).set
      rw [View.set_slice_whole, Rect.mem_set_unit]
      intro a
      have hi0 : (i 0 : Nat) < 1 := (i 0).isLt
      have hi1 : (i 1 : Nat) < 1 := (i 1).isLt
      match a with
      | ⟨0, _⟩ => show 0 * 1 ≤ (i 0 : Nat) ∧ (i 0 : Nat) < 0 * 1 + 1
                  omega
      | ⟨1, _⟩ => show 0 * 1 ≤ (i 1 : Nat) ∧ (i 1 : Nat) < 0 * 1 + 1
                  omega⟩

/-- The restored map the run ends with. -/
theorem tail_map (c : Dev nD) : Pipeline.afterTail₀ cfgs (dats m) 0 (V0 m) [hostOps1] c main_v4 =
    shapeCast S1x384x384x64 (tokens m c) shapeCasts_S147456x64_S1x384x384x64 := by
  unfold Pipeline.afterTail₀
  simp only [List.flatten_cons, List.flatten_nil, List.append_nil]
  rw [exit_map]
  refine congrArg (fun y : Vec Ideal S147456x64 .f32 => shapeCast S1x384x384x64 y shapeCasts_S147456x64_S1x384x384x64) ?_
  exact (Pipeline.withArrays_arr spec0 launch0.win.arr_inj c (V0 m c) _ 15).trans (final_out m c)

/-- The loss the run ends with. -/
theorem tail_loss (c : Dev nD) : (Pipeline.afterTail₀ cfgs (dats m) 0 (V0 m) [hostOps1] c main_v7 : Vec Ideal S_ .f32) = fun _ =>
    scaled (∑ u ∈ Finset.range 36, lossAt m c u) := by
  unfold Pipeline.afterTail₀
  simp only [List.flatten_cons, List.flatten_nil, List.append_nil]
  exact exit_loss _ (lossSum m c) ((Pipeline.withArrays_arr spec0 launch0.win.arr_inj c (V0 m c) _ 16).trans (final_loss m c))

/-- The run ends with the restored tokens and the loss. -/
theorem run (ρ : Dev nD → PrngReg) : θ_run defs (onTc (τ := τ) (main (F := Ideal))) ⟨m, fun _ => 0, ρ⟩ fun r => ∀ c : Dev nD,
    r.2.mem ((c.tc : Thread nD τ).loc main_v4) = shapeCast S1x384x384x64 (tokens m c) shapeCasts_S147456x64_S1x384x384x64 ∧
    (r.2.mem ((c.tc : Thread nD τ).loc main_v7) : Vec Ideal S_ .f32) = fun _ =>
      scaled (∑ u ∈ Finset.range 36, lossAt m c u) :=
  (θ_run defs _ _).mono (fun r h c => ⟨((h c).2 main_v4 (by decide)).trans (tail_map m c), ((h c).2 main_v7 (by decide)).trans (tail_loss m c)⟩)
    (run_main m ρ)

end Cert.KernelIdeal.Body

end
-- ==== Proof.Eq.Real.lean ====
/- Extended reals that are real numbers, and sums of them. -/
module

public import Idealize.ShloMosaic.Lib.Pointwise

@[expose] public section

namespace Cert.Equal

open Idealize.ShloMosaic

/-- The extended real is a real number. -/
def IsReal (x : EReal) : Prop := ∃ r : ℝ, x = r

/-- The sum of two real numbers is one. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The difference of two real numbers is one. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- A finite sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is one. -/
theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- A real number and its difference to a real number add up to that. -/
theorem add_sub_back {x y : EReal} (hx : IsReal x) (hy : IsReal y) : x + (y - x) = y := by
  obtain ⟨a, rfl⟩ := hx
  obtain ⟨b, rfl⟩ := hy
  rw [← EReal.coe_sub, ← EReal.coe_add]
  congr 1
  ring

/-- The squared distance is the token's squared norm plus the score. -/
theorem dist_eq_score {n : ℕ} (q c : Fin n → EReal) (hq : ∀ i, IsReal (q i)) (hc : ∀ i, IsReal (c i)) :
    (∑ i, q i * q i) - Ideal.ofBits .f32 0x40000000#32 * (∑ i, c i * q i) + ∑ i, c i * c i =
      (∑ i, q i * q i) + ((∑ i, Ideal.ofBits .f32 0xC0000000#32 * c i * q i) + ∑ i, c i * c i) := by
  have h2 : Ideal.ofBits .f32 0x40000000#32 = ((2 : ℝ) : EReal) := by
    simp [Ideal.ofBits, Ideal.ieee, -EReal.coe_mul]
    norm_num
  have h3 : Ideal.ofBits .f32 0xC0000000#32 = ((-2 : ℝ) : EReal) := by
    simp [Ideal.ofBits, Ideal.ieee, -EReal.coe_mul]
    norm_num
  choose a ha using hq
  choose b hb using hc
  obtain rfl : q = fun i => (a i : EReal) := funext ha
  obtain rfl : c = fun i => (b i : EReal) := funext hb
  rw [h2, h3]
  simp only [← EReal.coe_mul, ← coe_sum, ← EReal.coe_sub, ← EReal.coe_add]
  congr 1
  have : ∑ i, -2 * b i * a i = -2 * ∑ i, b i * a i := by
    rw [Finset.mul_sum]
    exact Finset.sum_congr rfl fun i _ => by ring
  rw [this]
  ring

end Cert.Equal

end
-- ==== Proof.Ker.Apply.lean ====
/- A grid point's steps read at one channel and one token, over the extended reals. -/
module

public import proofs.«01_k».proof.Proof.Ker.Stages
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem

/-- A load of one level reads that level. -/
theorem load_level {A B C : Nat} (X : (⟨3, ![A, B, C]⟩ : Shape).Idx → EReal) (l : Fin A) (inb) (b : Fin B) (k : Fin C) :
    (View.ld (S := ⟨3, ![A, B, C]⟩) (Val := Elt Ideal) (e' := .f32) X (Rect.unit ![l.val, 0, 0] ![1, B, C] inb) :
      (⟨3, ![1, B, C]⟩ : Shape).Idx → EReal) (ix3 0 b k) = X (ix3 l b k) := by
  refine congrArg X (funext fun a => Fin.ext ?_)
  match a with
  | 0 => exact Nat.add_zero _
  | 1 => exact (Nat.zero_add _).trans (Nat.one_mul _)
  | 2 => exact (Nat.zero_add _).trans (Nat.one_mul _)

/-- One level's matrix without its level. -/
theorem drop_mat (v : Vec Ideal S1x64x64 .f32) (a k : Fin 64) : shapeCast S64x64 v shapeCasts_S1x64x64_S64x64 (ix2 a k) = v (ix3 0 a k) := by
  pointwise

/-- One level's wide table without its level. -/
theorem drop_wide (v : Vec Ideal S1x64x512 .f32) (a : Fin 64) (r : Fin 512) :
    shapeCast S64x512 v shapeCasts_S1x64x512_S64x512 (ix2 a r) = v (ix3 0 a r) := by
  pointwise

/-- One level's tall table without its level. -/
theorem drop_tall (v : Vec Ideal S1x512x64 .f32) (r : Fin 512) (a : Fin 64) :
    shapeCast S512x64 v shapeCasts_S1x512x64_S512x64 (ix2 r a) = v (ix3 0 r a) := by
  pointwise

/-- The product with a wide table. -/
theorem wide_mul (D : FVec Ideal S64x512 .f32) (q : FVec Ideal S64x4096 .f32) (r : Fin 512) (n : Fin 4096) :
    matmul dot_S64x512_S64x4096_S512x4096_0_0_1_1_n_n none D q (constant S512x4096 .f32 0x00000000#32) (ix2 r n) =
      ∑ a : Fin 64, D (ix2 a r) * q (ix2 a n) := by
  pointwise

/-- The product with a tall table. -/
theorem tall_mul (G : FVec Ideal S512x64 .f32) (o : FVec Ideal S512x4096 .f32) (a : Fin 64) (n : Fin 4096) :
    matmul dot_S512x64_S512x4096_S64x4096_0_0_1_1_n_n none G o (constant S64x4096 .f32 0x00000000#32) (ix2 a n) =
      ∑ r : Fin 512, G (ix2 r a) * o (ix2 r n) := by
  pointwise

/-- A level's matrix. -/
theorem mat_apply (l : Fin 3) (W : Vec Ideal S3x64x64 .f32) (a k : Fin 64) : mat l W (ix2 a k) = W (ix3 l a k) := by
  unfold mat
  rw [drop_mat]
  exact load_level W l _ a k

/-- A matrix times a block. -/
theorem mm_mul (W : FVec Ideal S64x64 .f32) (x : FVec Ideal S64x4096 .f32) (a : Fin 64) (n : Fin 4096) :
    mm W x (ix2 a n) = ∑ k : Fin 64, W (ix2 a k) * x (ix2 k n) := by
  pointwise [mm]

/-- A level's matrix times a block. -/
theorem mm_apply (l : Fin 3) (W : Vec Ideal S3x64x64 .f32) (x : FVec Ideal S64x4096 .f32) (a : Fin 64) (n : Fin 4096) :
    mm (mat l W) x (ix2 a n) = ∑ k : Fin 64, W (ix3 l a k) * x (ix2 k n) := by
  simp only [mm_mul, mat_apply]

/-- A load of one layer reads that layer. -/
theorem load_layer (B : (⟨4, ![6, 3, 64, 1]⟩ : Shape).Idx → EReal) (j : Fin 6) (inb) (l : Fin 3) (a : Fin 64) :
    (View.ld (S := ⟨4, ![6, 3, 64, 1]⟩) (Val := Elt Ideal) (e' := .f32) B (Rect.unit ![j.val, 0, 0, 0] ![1, 3, 64, 1] inb) :
      (⟨4, ![1, 3, 64, 1]⟩ : Shape).Idx → EReal) (ix4 0 l a 0) = B (ix4 j l a 0) := by
  refine congrArg B (funext fun a => Fin.ext ?_)
  match a with
  | 0 => exact Nat.add_zero _
  | 1 => exact (Nat.zero_add _).trans (Nat.one_mul _)
  | 2 => exact (Nat.zero_add _).trans (Nat.one_mul _)
  | 3 => rfl

/-- A level's bias column out of a layer's, spread over the tokens. -/
theorem column_apply (l : Fin 3) (v : Vec Ideal S1x3x64x1 .f32) (a : Fin 64) (n : Fin 4096) :
    broadcastTo S64x4096
      (shapeCast S64x1 (extractStridedSlice S1x64x1 ![l.val, 0, 0] (shapeCast S3x64x1 v shapeCasts_S1x3x64x1_S3x64x1) (sliceL l))
        shapeCasts_S1x64x1_S64x1)
      broadcasts_S64x1_S64x4096 (ix2 a n) = v (ix4 0 l a 0) := by
  pointwise

/-- A bias. -/
theorem bias_apply (j : Fin 6) (l : Fin 3) (B : Vec Ideal S6x3x64x1 .f32) (a : Fin 64) (n : Fin 4096) :
    bias j l B (ix2 a n) = B (ix4 j l a 0) := by
  unfold bias
  rw [column_apply]
  exact load_layer B j _ l a

/-- A linear layer. -/
theorem lin_apply (j : Fin 6) (l : Fin 3) (W : Vec Ideal S3x64x64 .f32) (B : Vec Ideal S6x3x64x1 .f32) (x : FVec Ideal S64x4096 .f32)
    (a : Fin 64) (n : Fin 4096) :
    lin j l W B x (ix2 a n) = (∑ k : Fin 64, W (ix3 l a k) * x (ix2 k n)) + B (ix4 j l a 0) := by
  rw [← mm_apply, ← bias_apply j l B a n]
  rfl

/-- A cross term. -/
theorem cross_apply (l : Fin 3) (D : Vec Ideal S3x64x512 .f32) (q : FVec Ideal S64x4096 .f32) (r : Fin 512) (n : Fin 4096) :
    cross l D q (ix2 r n) = ∑ a : Fin 64, D (ix3 l a r) * q (ix2 a n) := by
  unfold cross
  rw [wide_mul]
  refine Finset.sum_congr rfl fun a _ => ?_
  rw [drop_wide]
  exact congrArg (· * _) (load_level D l _ a r)

/-- A score. -/
theorem score_apply (l : Fin 3) (s : Fin 4) (C : Vec Ideal S3x512x1 .f32) (cr : FVec Ideal S512x4096 .f32) (k : Fin 128) (n : Fin 4096) :
    score l s C cr (ix2 k n) = cr (ix2 ⟨128 * s.val + k.val, by omega⟩ n) + C (ix3 l ⟨128 * s.val + k.val, by omega⟩ 0) := by
  pointwise [score]

/-- A column's smallest entry. -/
theorem low_apply (v : FVec Ideal S128x4096 .f32) (a : Fin 1) (n : Fin 4096) :
    low v (ix2 a n) = Finset.univ.fold min (Ideal.ofBits .f32 0x7F800000#32) (fun k : Fin 128 => v (ix2 k n)) := by
  pointwise [low]

/-- A row's number. -/
theorem rowNum_apply (k : Fin 128) (n : Fin 4096) : rowNum (F := Ideal) (ix2 k n) = ((k.val : ℝ) : EReal) := by
  pointwise [rowNum, k0_pay86]
  show (((BitVec.ofNat 32 k.val).toInt : ℝ) : EReal) = _
  rw [BitVec.toInt_eq_toNat_of_lt (by rw [BitVec.toNat_ofNat]; omega), BitVec.toNat_ofNat, Nat.mod_eq_of_lt (by omega)]
  norm_cast

/-- A mark. -/
theorem hot_apply (i : FVec Ideal S1x4096 .f32) (k : Fin 128) (n : Fin 4096) :
    hot i (ix2 k n) = if ((k.val : ℝ) : EReal) = i (ix2 0 n) then 1 else 0 := by
  pointwise [hot]
  rw [rowNum_apply]
  by_cases h : ((k.val : ℝ) : EReal) = i (ix2 0 n)
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    norm_num

/-- The marks of the segment a row belongs to. -/
theorem marks_apply (h : Fin 4 → FVec Ideal S128x4096 .f32) (r : Fin 512) (n : Fin 4096) :
    marks (h 0) (h 1) (h 2) (h 3) (ix2 r n) = h ⟨r.val / 128, by omega⟩ (ix2 ⟨r.val % 128, by omega⟩ n) := by
  pointwise [marks]
  have key : ∀ (s : Fin 4) (k : Fin 128), r.val = 128 * s.val + k.val →
      h s (ix2 k n) = h ⟨r.val / 128, by omega⟩ (ix2 ⟨r.val % 128, by omega⟩ n) := by
    intro s k e
    have hs : s = ⟨r.val / 128, by omega⟩ := Fin.ext (by show s.val = r.val / 128; omega)
    have hk : k = ⟨r.val % 128, by omega⟩ := Fin.ext (by show k.val = r.val % 128; omega)
    rw [← hs, ← hk]
  split
  · exact key 0 ⟨r.val, by omega⟩ (by show r.val = 128 * 0 + r.val; omega)
  · split
    · exact key 1 ⟨r.val - 128, by omega⟩ (by show r.val = 128 * 1 + (r.val - 128); omega)
    · split
      · exact key 2 ⟨r.val - 128 - 128, by omega⟩ (by show r.val = 128 * 2 + (r.val - 128 - 128); omega)
      · exact key 3 ⟨r.val - 128 - 128 - 128, by omega⟩ (by show r.val = 128 * 3 + (r.val - 128 - 128 - 128); omega)

/-- The marked codewords. -/
theorem fetch_apply (l : Fin 3) (G : Vec Ideal S3x512x64 .f32) (o : FVec Ideal S512x4096 .f32) (a : Fin 64) (n : Fin 4096) :
    fetch l G o (ix2 a n) = ∑ r : Fin 512, G (ix3 l r a) * o (ix2 r n) := by
  unfold fetch
  rw [tall_mul]
  refine Finset.sum_congr rfl fun r _ => ?_
  rw [drop_tall]
  exact congrArg (· * _) (load_level G l _ r a)

/-- The sum of squared differences. -/
theorem sq_eq (q h : FVec Ideal S64x4096 .f32) :
    sq q h = ∑ a : Fin 64, ∑ n : Fin 4096, (q (ix2 a n) - h (ix2 a n)) * (q (ix2 a n) - h (ix2 a n)) := by
  pointwise [sq]

/-- The block turned. -/
theorem outOf_apply (p : Ins Ideal) (n : Fin 4096) (a : Fin 64) :
    outOf p (ix2 n a) = restOf p 0 (hardOf p 0 (x0 p)) (restOf p 1 (hardOf p 1 (x1 p)) (lastOf p (hardOf p 2 (x2 p)))) (ix2 a n) := by
  pointwise [outOf]

end Cert.KernelIdeal.Body

end
-- ==== Proof.Nearest.lean ====
/- The first place at which finitely many extended reals are least. -/
module

public import Idealize.ShloMosaic.Lib.Pointwise

@[expose] public section

namespace Cert.Nearest

/-- `k` is the first place at which `f` is least. -/
def Nearest {n : ℕ} (f : Fin n → EReal) (k : Fin n) : Prop := (∀ j, f k ≤ f j) ∧ ∀ j, f j = f k → k ≤ j

/-- There is only one such place. -/
theorem Nearest.unique {n : ℕ} {f : Fin n → EReal} {k k' : Fin n} (h : Nearest f k) (h' : Nearest f k') : k = k' :=
  le_antisymm (h.2 k' (le_antisymm (h'.1 k) (h.1 k'))) (h'.2 k (le_antisymm (h.1 k') (h'.1 k)))

/-- There is such a place among at least one. -/
theorem Nearest.exists {n : ℕ} (f : Fin (n + 1) → EReal) : ∃ k, Nearest f k := by
  obtain ⟨k, -, hk⟩ := Finset.exists_min_image Finset.univ f ⟨0, Finset.mem_univ _⟩
  have hne : (Finset.univ.filter fun j => f j = f k).Nonempty := ⟨k, by simp⟩
  refine ⟨(Finset.univ.filter fun j => f j = f k).min' hne, ?_, ?_⟩
  · intro j
    have := (Finset.mem_filter.mp (Finset.min'_mem _ hne)).2
    rw [this]
    exact hk j (Finset.mem_univ _)
  · intro j hj
    have := (Finset.mem_filter.mp (Finset.min'_mem _ hne)).2
    exact Finset.min'_le _ j (by rw [Finset.mem_filter]; exact ⟨Finset.mem_univ _, hj.trans this⟩)

/-- Adding one real number to all of them does not move the place. -/
theorem Nearest.of_add {n : ℕ} {f g : Fin n → EReal} (c : ℝ) (hg : ∀ j, g j = (c : EReal) + f j) {k : Fin n} (h : Nearest f k) :
    Nearest g k := by
  refine ⟨fun j => ?_, fun j hj => h.2 j ?_⟩
  · rw [hg, hg]; exact add_le_add le_rfl (h.1 j)
  · rw [hg, hg] at hj
    have e : ∀ x : EReal, x = ((-c : ℝ) : EReal) + ((c : EReal) + x) := fun x => by
      rw [← add_assoc, ← EReal.coe_add, neg_add_cancel, EReal.coe_zero, zero_add]
    rw [e (f j), hj, ← e]

end Cert.Nearest

end
-- ==== Proof.Ker.Code.lean ====
/- The kernel's codewords: the first nearest codeword of each segment of a token. -/
module

public import proofs.«01_k».proof.Proof.Ker.Apply
public import proofs.«01_k».proof.Proof.Ker.Tables
public import proofs.«01_k».proof.Proof.Nearest

@[expose] public section

set_option maxRecDepth 16384

noncomputable section

namespace Cert.KernelIdeal.Body

open Cert.KernelIdeal Cert.KernelIdeal.Gen Idealize.ShloMosaic Idealize.ShloMosaic.TcCoe Idealize.SL.Sem Cert.Nearest

/-- A minimum from infinity is the least value. -/
theorem fold_min_eq {n : ℕ} (f : Fin n → EReal) (k : Fin n) (h : ∀ j, f k ≤ f j) :
    Finset.univ.fold min (Ideal.ofBits .f32 0x7F800000#32) f = f k := by
  have htop : Ideal.ofBits .f32 0x7F800000#32 = (⊤ : EReal) := by simp [Ideal.ofBits, Ideal.ieee]
  rw [htop]
  refine le_antisymm ?_ ?_
  · exact (Finset.fold_min_le _).mpr (Or.inr ⟨k, Finset.mem_univ _, le_rfl⟩)
  · exact (Finset.le_fold_min _).mpr ⟨le_top, fun j _ => h j⟩

/-- What the first row is found from: a row's number where it holds the value given, a number past all rows elsewhere. -/
theorem mark_apply (d : FVec Ideal S128x4096 .f32) (v : FVec Ideal S1x4096 .f32) (k : Fin 128) (n : Fin 4096) :
    (select (cmpf .oeq d (broadcastTo S128x4096 v broadcasts_S1x4096_S128x4096)) rowNum
      (broadcast S128x4096 (Scalar.ofBits .f32 0x43000000#32)) : FVec Ideal S128x4096 .f32) (ix2 k n) =
        if d (ix2 k n) = v (ix2 0 n) then ((k.val : ℝ) : EReal) else ((128 : ℝ) : EReal) := by
  have h128 : Ideal.ofBits .f32 0x43000000#32 = ((128 : ℝ) : EReal) := by
    simp [Ideal.ofBits, Ideal.ieee, -EReal.coe_mul]
    norm_num
  pointwise
  rw [rowNum_apply, h128]

/-- The row found is the first that holds its column's least entry. -/
theorem first_at (d : FVec Ideal S128x4096 .f32) (n : Fin 4096) (k : Fin 128) (h : Nearest (fun k => d (ix2 k n)) k) :
    first d (ix2 0 n) = ((k.val : ℝ) : EReal) := by
  have hl : low d (ix2 0 n) = d (ix2 k n) := by
    rw [low_apply]
    exact fold_min_eq (fun k => d (ix2 k n)) k h.1
  unfold first
  rw [low_apply]
  simp only [mark_apply, hl]
  refine (fold_min_eq _ k fun j => ?_).trans (if_pos rfl)
  simp only [if_true]
  split
  · rename_i e
    have := h.2 j e
    exact EReal.coe_le_coe_iff.mpr (by exact_mod_cast this)
  · refine EReal.coe_le_coe_iff.mpr ?_
    have : (k.val : ℝ) < (128 : ℕ) := by exact_mod_cast k.isLt
    exact_mod_cast this.le

/-- The mark is in the first nearest row. -/
theorem hot_first (d : FVec Ideal S128x4096 .f32) (n : Fin 4096) (k : Fin 128) (h : Nearest (fun k => d (ix2 k n)) k) (j : Fin 128) :
    hot (first d) (ix2 j n) = if j = k then 1 else 0 := by
  rw [hot_apply, first_at d n k h]
  refine if_congr ⟨fun e => Fin.ext ?_, fun e => by rw [e]⟩ rfl rfl
  have := EReal.coe_eq_coe_iff.mp e
  exact_mod_cast this

/-- The marks of a segment are its own. -/
theorem nearest_apply (l : Fin 3) (Q : Vec Ideal S3x512x1 .f32) (cr : FVec Ideal S512x4096 .f32) (r : Fin 512) (n : Fin 4096) :
    nearest l Q cr (ix2 r n) = hot (first (score l ⟨r.val / 128, by omega⟩ Q cr)) (ix2 ⟨r.val % 128, by omega⟩ n) :=
  marks_apply (fun s => hot (first (score l s Q cr))) r n

/-- The marked codewords are the first nearest ones. -/
theorem fetch_nearest (l : Fin 3) (C : Vec Ideal S3x4x128x16 .f32) (Q : Vec Ideal S3x512x1 .f32) (cr : FVec Ideal S512x4096 .f32)
    (s : Fin 4) (b : Fin 16) (n : Fin 4096) (k : Fin 128) (h : Nearest (fun k => score l s Q cr (ix2 k n)) k) :
    fetch l (tabG C) (nearest l Q cr) (ix2 ⟨16 * s.val + b.val, by omega⟩ n) = C (ix4 l s k b) := by
  have hn : ∀ r : Fin 512, ∀ j : Fin 128, r.val = 128 * s.val + j.val → nearest l Q cr (ix2 r n) = if j = k then 1 else 0 := by
    intro r j e
    rw [nearest_apply, ← hot_first _ n k h j]
    have e1 : (⟨r.val / 128, by omega⟩ : Fin 4) = s := Fin.ext (by show r.val / 128 = s.val; omega)
    have e2 : (⟨r.val % 128, by omega⟩ : Fin 128) = j := Fin.ext (by show r.val % 128 = j.val; omega)
    rw [e1, e2]
  rw [fetch_apply, Finset.sum_eq_single ⟨128 * s.val + k.val, by omega⟩]
  · rw [tabG_at, hn _ k rfl, if_pos rfl, mul_one]
  · intro r _ hr
    by_cases hs : r.val / 128 = s.val
    · have hj : r.val = 128 * s.val + (⟨r.val % 128, by omega⟩ : Fin 128).val := by show r.val = 128 * s.val + r.val % 128; omega
      rw [hn r _ hj, if_neg, mul_zero]
      intro e
      exact hr (Fin.ext (by rw [hj, e]))
    · have hz : tabG C (ix3 l r ⟨16 * s.val + b.val, by omega⟩) = 0 :=
        if_neg (show ¬(16 * s.val + b.val) / 16 = r.val / 128 by omega)
      rw [hz, zero_mul]
  · exact fun h => absurd (Finset.mem_univ _) h

/-- A cross term runs over its own segment's channels only. -/
theorem cross_at (l : Fin 3) (C : Vec Ideal S3x4x128x16 .f32) (q : FVec Ideal S64x4096 .f32) (s : Fin 4) (k : Fin 128) (n : Fin 4096) :
    cross l (tabD C) q (ix2 ⟨128 * s.val + k.val, by omega⟩ n) =
      ∑ b : Fin 16, Ideal.ofBits .f32 0xC0000000#32 * C (ix4 l s k b) * q (ix2 ⟨16 * s.val + b.val, by omega⟩ n) := by
  rw [cross_apply]
  symm
  refine Fintype.sum_of_injective (fun b : Fin 16 => (⟨16 * s.val + b.val, by omega⟩ : Fin 64)) ?_ _ _ ?_ ?_
  · intro b b' e
    have := Fin.mk.inj_iff.mp e
    exact Fin.ext (by omega)
  · intro a ha
    have hz : tabD C (ix3 l a ⟨128 * s.val + k.val, by omega⟩) = 0 := by
      refine if_neg ?_
      show ¬a.val / 16 = (128 * s.val + k.val) / 128
      intro e
      exact ha ⟨⟨a.val % 16, by omega⟩, Fin.ext (by show 16 * s.val + a.val % 16 = a.val; omega)⟩
    rw [hz, zero_mul]
  · intro b
    rw [tabD_at]

/-- A score: the cross term and the codeword's squared norm. -/
theorem score_at (l : Fin 3) (C : Vec Ideal S3x4x128x16 .f32) (N : Vec Ideal S3x4x128 .f32) (q : FVec Ideal S64x4096 .f32)
    (s : Fin 4) (k : Fin 128) (n : Fin 4096) :
    score l s (tabQ N) (cross l (tabD C) q) (ix2 k n) =
      (∑ b : Fin 16, Ideal.ofBits .f32 0xC0000000#32 * C (ix4 l s k b) * q (ix2 ⟨16 * s.val + b.val, by omega⟩ n)) + N (ix3 l s k) := by
  rw [score_apply, cross_at, tabQ_at]

end Cert.KernelIdeal.Body

end
-- ==== Proof.Ref.Ops.lean ====
/- The reference program's host operations as lists, one list for each step of the mathematics. -/
module

public import proofs.«01_k».proof.Proof.Gen.ReferenceIdeal
public import Idealize.ShloMosaic.Lib.StableHlo.Run

@[expose] public section

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- A segment number and a codeword number side by side: what the gather of a codeword is told. -/
def pairIdx (a b : (⟨S147456x4x1, .i32⟩ : BufTy).Contents (Elt F)) : (⟨S147456x4x2, .i32⟩ : BufTy).Contents (Elt F) :=
  concatenate S147456x4x2 2 [⟨S147456x4x1, a⟩, ⟨S147456x4x1, b⟩] concatenates_S147456x4x1_S147456x4x1_S147456x4x2_d2

/-- The operations that compute the tokens: the feature map with its channels last, one row per token. -/
abbrev tok : List (HloOp τ sig (Elt F)) :=
  [unary main_arg0 main_v0 ((transpose S1x384x384x64 [0, 2, 3, 1] · transposes_S1x64x384x384_S1x384x384x64_0_2_3_1) : (⟨S1x64x384x384, .f32⟩ : BufTy).Contents (Elt F) → (⟨S1x384x384x64, .f32⟩ : BufTy).Contents (Elt F)),
   reshape main_v0 main_v1 (rfl : (.f32 : EltTy) = .f32) shapeCasts_S1x384x384x64_S147456x64]

/-- The operations that compute the encoder of the first level. -/
abbrev enc0 : List (HloOp τ sig (Elt F)) :=
  [unary main_arg1 main_v2 ((extractStridedSlice S1x64x64 ![0, 0, 0] · slices_S3x64x64_S1x64x64_0_0_0) : (⟨S3x64x64, .f32⟩ : BufTy).Contents (Elt F) → (⟨S1x64x64, .f32⟩ : BufTy).Contents (Elt F)),
   reshape main_v2 main_v3 (rfl : (.f32 : EltTy) = .f32) shapeCasts_S1x64x64_S64x64,
   unary main_v3 main_v4 ((transpose S64x64 [1, 0] · transposes_S64x64_S64x64_1_0) : (⟨S64x64, .f32⟩ : BufTy).Contents (Elt F) → (⟨S64x64, .f32⟩ : BufTy).Contents (Elt F)),
   binary main_v1 main_v4 main_v5 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg2 main_v6 ((extractStridedSlice S1x64 ![0, 0] · slices_S3x64_S1x64_0_0) : (⟨S3x64, .f32⟩ : BufTy).Contents (Elt F) → (⟨S1x64, .f32⟩ : BufTy).Contents (Elt F)),
   reshape main_v6 main_v7 (rfl : (.f32 : EltTy) = .f32) shapeCasts_S1x64_S64,
   unary main_v7 main_v8 (broadcastInDim S1x64 ![1] bcast_S64_S1x64_1 : (⟨S64, .f32⟩ : BufTy).Contents (Elt F) → (⟨S1x64, .f32⟩ : BufTy).Contents (Elt F)),
   unary main_v8 main_v9 (broadcastInDim S147456x64 ![0, 1] bcast_S1x64_S147456x64_0_1 : (⟨S1x64, .f32⟩ : BufTy).Contents (Elt F) → (⟨S147456x64, .f32⟩ : BufTy).Contents (Elt F)),
   binary main_v5 main_v9 main_v10 (addf : (⟨S147456x64, .f32⟩ : BufTy).Contents (Elt F) → (⟨S147456x64, .f32⟩ : BufTy).Contents (Elt F) → (⟨S147456x64, .f32⟩ : BufTy).Contents (Elt F))]

/-- The operations that compute the quantization head of the first level. -/
abbrev head0 : List (HloOp τ sig (Elt F)) :=
  [unary main_arg3 main_v11 ((extractStridedSlice S1x64x64 ![0, 0, 0] · slices_S3x64x64_S1x64x64_0_0_0) : (⟨S3x64x64, .f32⟩ : BufTy).Contents (Elt F) → (⟨S1x64x64, .f32⟩ : BufTy).Contents (Elt F)),
   reshape main_v11 main_v12 (rfl : (.f32 : EltTy) = .f32) shapeCasts_S1x64x64_S64x64,
   unary main_v12 main_v13 ((transpose S64x64 [1, 0] · transposes_S64x64_S64x64_1_0) : (⟨S64x64, .f32⟩ : BufTy).Contents (Elt F) → (⟨S64x64, .f32⟩ : BufTy).Contents (Elt F)),
   binary main_v10 main_v13 main_v14 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg4 main_v15 ((extractStridedSlice S1x64 ![0, 0] · slices_S3x64_S1x64_0_0) : (⟨S3x64, .f32⟩ : BufTy).Contents (Elt F) → (⟨S1x64, .f32⟩ : BufTy).Contents (Elt F)),
   reshape main_v15 main_v16 (rfl : (.f32 : EltTy) = .f32) shapeCasts_S1x64_S64,
   unary main_v16 main_v17 (broadcastInDim S1x64 ![1] bcast_S64_S1x64_1 : (⟨S64, .f32⟩ : BufTy).Contents (Elt F) → (⟨S1x64, .f32⟩ : BufTy).Contents (Elt F)),
   unary main_v17 main_v18 (broadcastInDim S147456x64 ![0, 1] bcast_S1x64_S147456x64_0_1 : (⟨S1x64, .f32⟩ : BufTy).Contents (Elt F) → (⟨S147456x64, .f32⟩ : BufTy).Contents (Elt F)),
   binary main_v14 main_v18 main_v19 (addf : (⟨S147456x64, .f32⟩ : BufTy).Contents (Elt F) → (⟨S147456x64, .f32⟩ : BufTy).Contents (Elt F) → (⟨S147456x64, .f32⟩ : BufTy).Contents (Elt F))]

/-- The operations that compute the distances to the codewords of the first level. -/
abbrev dist0 : List (HloOp τ sig (Elt F)) :=
  [reshape main_v19 main_v20 (rfl : (.f32 : EltTy) = .f32) shapeCasts_S147456x64_S147456x4x16,
   unary main_arg13 main_v21 ((extractStridedSlice S1x4x128x16 ![0, 0, 0, 0] · slices_S3x4x128x16_S1x4x128x16_0_0_0_0) : (⟨S3x4x128x16, .f32⟩ : BufTy).Contents (Elt F) → (⟨S1x4x128x16, .f32⟩ : BufTy).Contents (Elt F)),
   reshape main_v21 main_v22 (rfl : (.f32 : EltTy) = .f32) shapeCasts_S1x4x128x16_S4x128x16,
   binary main_v20 main_v20 main_v23 (mulf : (⟨S147456x4x16, .f32⟩ : BufTy).Contents (Elt F) → (⟨S147456x4x16, .f32⟩ : BufTy).Contents (Elt F) → (⟨S147456x4x16, .f32⟩ : BufTy).Contents (Elt F)),
   nullary main_cst (constant S_ .f32 0x00000000#32),
   binary main_v23 main_cst main_v24 ((fun x v => Host.reduceAdd x v reducesTo_S147456x4x16_S147456x4_d2 h_S_) : (⟨S147456x4x16, .f32⟩ : BufTy).Contents (Elt F) → (⟨S_, .f32⟩ : BufTy).Contents (Elt F) → (⟨S147456x4, .f32⟩ : BufTy).Contents (Elt F)),
   unary main_v24 main_v25 (broadcastInDim S147456x4x1 ![0, 1] bcast_S147456x4_S147456x4x1_0_1 : (⟨S147456x4, .f32⟩ : BufTy).Contents (Elt F) → (⟨S147456x4x1, .f32⟩ : BufTy).Contents (Elt F)),
   binary main_v22 main_v20 main_v26 ((fun l r => Host.dotGeneral dot_S4x128x16_S147456x4x16_S4x128x147456_2_2_1_0_0_1 none l r) : (⟨S4x128x16, .f32⟩ : BufTy).Contents (Elt F) → (⟨S147456x4x16, .f32⟩ : BufTy).Contents (Elt F) → (⟨S4x128x147456, .f32⟩ : BufTy).Contents (Elt F)),
   unary main_v26 main_v27 ((transpose S147456x4x128 [2, 0, 1] · transposes_S4x128x147456_S147456x4x128_2_0_1) : (⟨S4x128x147456, .f32⟩ : BufTy).Contents (Elt F) → (⟨S147456x4x128, .f32⟩ : BufTy).Contents (Elt F)),
   nullary main_cst_0 (constant S_ .f32 0x40000000#32),
   unary main_cst_0 main_v28 (broadcastInDim S147456x4x128 ![] bcast_S_S147456x4x128 : (⟨S_, .f32⟩ : BufTy).Contents (Elt F) → (⟨S147456x4x128, .f32⟩ : BufTy).Contents (Elt F)),
   binary main_v28 main_v27 main_v29 (mulf : (⟨S147456x4x128, .f32⟩ : BufTy).Contents (Elt F) → (⟨S147456x4x128, .f32⟩ : BufTy).Contents (Elt F) → (⟨S147456x4x128, .f32⟩ : BufTy).Contents (Elt F)),
   unary main_v25 main_v30 (broadcastInDim S147456x4x128 ![0, 1, 2] bcast_S147456x4x1_S147456x4x128_0_1_2 : (⟨S147456x4x1, .f32⟩ : BufTy).Contents (Elt F) → (⟨S147456x4x128, .f32⟩ : BufTy).Contents (Elt F)),
   binary main_v30 main_v29 main_v31 (subf : (⟨S147456x4x128, .f32⟩ : BufTy).Contents (Elt F) → (⟨S147456x4x128, .f32⟩ : BufTy).Contents (Elt F) → (⟨S147456x4x128, .f32⟩ : BufTy).Contents (Elt F)),
   binary main_v22 main_v22 main_v32 (mulf : (⟨S4x128x16, .f32⟩ : BufTy).Contents (Elt F) → (⟨S4x128x16, .f32⟩ : BufTy).Contents (Elt F) → (⟨S4x128x16, .f32⟩ : BufTy).Contents (Elt F)),
   nullary main_cst_1 (constant S_ .f32 0x00000000#32),
   binary main_v32 main_cst_1 main_v33 ((fun x v => Host.reduceAdd x v reducesTo_S4x128x16_S4x128_d2 h_S_) : (⟨S4x128x16, .f32⟩ : BufTy).Contents (Elt F) → (⟨S_, .f32⟩ : BufTy).Contents (Elt F) → (⟨S4x128, .f32⟩ : BufTy).Contents (Elt F)),
   unary main_v33 main_v34 (broadcastInDim S1x4x128 ![1, 2] bcast_S4x128_S1x4x128_1_2 : (⟨S4x128, .f32⟩ : BufTy).Contents (Elt F) → (⟨S1x4x128, .f32⟩ : BufTy).Contents (Elt F)),
   unary main_v34 main_v35 (broadcastInDim S147456x4x128 ![0, 1, 2] bcast_S1x4x128_S147456x4x128_0_1_2 : (⟨S1x4x128, .f32⟩ : BufTy).Contents (Elt F) → (⟨S147456x4x128, .f32⟩ : BufTy).Contents (Elt F)),
   binary main_v31 main_v35 main_v36 (addf : (⟨S147456x4x128, .f32⟩ : BufTy).Contents (Elt F) → (⟨S147456x4x128, .f32⟩ : BufTy).Contents (Elt F) → (⟨S147456x4x128, .f32⟩ : BufTy).Contents (Elt F))]

/-- The operations that compute the nearest codeword of the first level. -/
abbrev amin0 : List (HloOp τ sig (Elt F)) :=
  [TRef.nullary (TRef.of (T := ⟨S147456x4x128, .i32⟩) main_call0_v0) (iotaInDim S147456x4x128 32 2),
   TRef.nullary (TRef.of (T := ⟨S_, .f32⟩) main_call0_cst) (constant S_ .f32 0x7F800000#32),
   TRef.nullary (TRef.of (T := ⟨S_, .i32⟩) main_call0_c) (constantI S_ 32 0#32),
   TRef.quaternary (TRef.of (T := ⟨S147456x4x128, .f32⟩) main_v36) (TRef.of (T := ⟨S147456x4x128, .i32⟩) main_call0_v0) (TRef.of (T := ⟨S_, .f32⟩) main_call0_cst) (TRef.of (T := ⟨S_, .i32⟩) main_call0_c) (TRef.of (T := ⟨S147456x4, .f32⟩) main_call0_v1_0) (fun x y u v j => (Host.argReduce reducer_argmin_f32_i32 x y u v reducesTo_S147456x4x128_S147456x4_d2 h_S_ j).1),
   TRef.quaternary (TRef.of (T := ⟨S147456x4x128, .f32⟩) main_v36) (TRef.of (T := ⟨S147456x4x128, .i32⟩) main_call0_v0) (TRef.of (T := ⟨S_, .f32⟩) main_call0_cst) (TRef.of (T := ⟨S_, .i32⟩) main_call0_c) (TRef.of (T := ⟨S147456x4, .i32⟩) main_v37) (fun x y u v j => (Host.argReduce reducer_argmin_f32_i32 x y u v reducesTo_S147456x4x128_S147456x4_d2 h_S_ j).2)]

/-- The operations that compute the codewords chosen at the first level. -/
abbrev pick0 : List (HloOp τ sig (Elt F)) :=
  [nullary main_v38 (iotaInDim S4 32 0),
   unary main_v38 main_v39 (broadcastInDim S1x4 ![1] bcast_S4_S1x4_1 : (⟨S4, .i32⟩ : BufTy).Contents (Elt F) → (⟨S1x4, .i32⟩ : BufTy).Contents (Elt F)),
   nullary main_c (constantI S_ 32 0#32),
   unary main_c main_v40 (broadcastInDim S1x4 ![] bcast_S_S1x4 : (⟨S_, .i32⟩ : BufTy).Contents (Elt F) → (⟨S1x4, .i32⟩ : BufTy).Contents (Elt F)),
   binary main_v39 main_v40 main_v41 (cmpi .slt : (⟨S1x4, .i32⟩ : BufTy).Contents (Elt F) → (⟨S1x4, .i32⟩ : BufTy).Contents (Elt F) → (⟨S1x4, .i1⟩ : BufTy).Contents (Elt F)),
   nullary main_c_2 (constantI S_ 32 4#32),
   unary main_c_2 main_v42 (broadcastInDim S1x4 ![] bcast_S_S1x4 : (⟨S_, .i32⟩ : BufTy).Contents (Elt F) → (⟨S1x4, .i32⟩ : BufTy).Contents (Elt F)),
   binary main_v39 main_v42 main_v43 (addi : (⟨S1x4, .i32⟩ : BufTy).Contents (Elt F) → (⟨S1x4, .i32⟩ : BufTy).Contents (Elt F) → (⟨S1x4, .i32⟩ : BufTy).Contents (Elt F)),
   ternary main_v41 main_v43 main_v39 main_v44 (select : (⟨S1x4, .i1⟩ : BufTy).Contents (Elt F) → (⟨S1x4, .i32⟩ : BufTy).Contents (Elt F) → (⟨S1x4, .i32⟩ : BufTy).Contents (Elt F) → (⟨S1x4, .i32⟩ : BufTy).Contents (Elt F)),
   nullary main_c_3 (constantI S_ 32 0#32),
   unary main_c_3 main_v45 (broadcastInDim S147456x4 ![] bcast_S_S147456x4 : (⟨S_, .i32⟩ : BufTy).Contents (Elt F) → (⟨S147456x4, .i32⟩ : BufTy).Contents (Elt F)),
   binary main_v37 main_v45 main_v46 (cmpi .slt : (⟨S147456x4, .i32⟩ : BufTy).Contents (Elt F) → (⟨S147456x4, .i32⟩ : BufTy).Contents (Elt F) → (⟨S147456x4, .i1⟩ : BufTy).Contents (Elt F)),
   nullary main_c_4 (constantI S_ 32 128#32),
   unary main_c_4 main_v47 (broadcastInDim S147456x4 ![] bcast_S_S147456x4 : (⟨S_, .i32⟩ : BufTy).Contents (Elt F) → (⟨S147456x4, .i32⟩ : BufTy).Contents (Elt F)),
   binary main_v37 main_v47 main_v48 (addi : (⟨S147456x4, .i32⟩ : BufTy).Contents (Elt F) → (⟨S147456x4, .i32⟩ : BufTy).Contents (Elt F) → (⟨S147456x4, .i32⟩ : BufTy).Contents (Elt F)),
   ternary main_v46 main_v48 main_v37 main_v49 (select : (⟨S147456x4, .i1⟩ : BufTy).Contents (Elt F) → (⟨S147456x4, .i32⟩ : BufTy).Contents (Elt F) → (⟨S147456x4, .i32⟩ : BufTy).Contents (Elt F) → (⟨S147456x4, .i32⟩ : BufTy).Contents (Elt F)),
   unary main_v44 main_v50 (broadcastInDim S147456x4 ![0, 1] bcast_S1x4_S147456x4_0_1 : (⟨S1x4, .i32⟩ : BufTy).Contents (Elt F) → (⟨S147456x4, .i32⟩ : BufTy).Contents (Elt F)),
   unary main_v50 main_v51 (broadcastInDim S147456x4x1 ![0, 1] bcast_S147456x4_S147456x4x1_0_1 : (⟨S147456x4, .i32⟩ : BufTy).Contents (Elt F) → (⟨S147456x4x1, .i32⟩ : BufTy).Contents (Elt F)),
   unary main_v49 main_v52 (broadcastInDim S147456x4x1 ![0, 1] bcast_S147456x4_S147456x4x1_0_1 : (⟨S147456x4, .i32⟩ : BufTy).Contents (Elt F) → (⟨S147456x4x1, .i32⟩ : BufTy).Contents (Elt F)),
   binary main_v51 main_v52 main_v53 pairIdx,
   binary main_v22 main_v53 main_v54 ((fun x i => Host.gather gather_S4x128x16_S147456x4x2_S147456x4x16_2_01_n_n_01_2_1116 x i) : (⟨S4x128x16, .f32⟩ : BufTy).Contents (Elt F) → (⟨S147456x4x2, .i32⟩ : BufTy).Contents (Elt F) → (⟨S147456x4x16, .f32⟩ : BufTy).Contents (Elt F)),
   reshape main_v54 main_v55 (rfl : (.f32 : EltTy) = .f32) shapeCasts_S147456x4x16_S147456x64]

/-- The operations that compute the quantized tokens of the first level. -/
abbrev quant0 : List (HloOp τ sig (Elt F)) :=
  [binary main_v55 main_v19 main_v56 (subf : (⟨S147456x64, .f32⟩ : BufTy).Contents (Elt F) → (⟨S147456x64, .f32⟩ : BufTy).Contents (Elt F) → (⟨S147456x64, .f32⟩ : BufTy).Contents (Elt F)),
   binary main_v19 main_v56 main_v57 (addf : (⟨S147456x64, .f32⟩ : BufTy).Contents (Elt F) → (⟨S147456x64, .f32⟩ : BufTy).Contents (Elt F) → (⟨S147456x64, .f32⟩ : BufTy).Contents (Elt F))]

/-- The operations that compute the loss after the first level. -/
abbrev loss0 : List (HloOp τ sig (Elt F)) :=
  [binary main_v19 main_v55 main_v58 (subf : (⟨S147456x64, .f32⟩ : BufTy).Contents (Elt F) → (⟨S147456x64, .f32⟩ : BufTy).Contents (Elt F) → (⟨S147456x64, .f32⟩ : BufTy).Contents (Elt F)),
   binary main_v58 main_v58 main_v59 (mulf : (⟨S147456x64, .f32⟩ : BufTy).Contents (Elt F) → (⟨S147456x64, .f32⟩ : BufTy).Contents (Elt F) → (⟨S147456x64, .f32⟩ : BufTy).Contents (Elt F)),
   nullary main_cst_5 (constant S_ .f32 0x00000000#32),
   binary main_v59 main_cst_5 main_v60 ((fun x v => Host.reduceAdd x v reducesTo_S147456x64_S_d0_1 h_S_) : (⟨S147456x64, .f32⟩ : BufTy).Contents (Elt F) → (⟨S_, .f32⟩ : BufTy).Contents (Elt F) → (⟨S_, .f32⟩ : BufTy).Contents (Elt F)),
   nullary main_cst_6 (constant S_ .f32 0x4B100000#32),
   binary main_v60 main_cst_6 main_v61 (Host.divf : (⟨S_, .f32⟩ : BufTy).Contents (Elt F) → (⟨S_, .f32⟩ : BufTy).Contents (Elt F) → (⟨S_, .f32⟩ : BufTy).Contents (Elt F)),
   nullary main_cst_7 (constant S_ .f32 0x00000000#32),
   binary main_cst_7 main_v61 main_v62 (addf : (⟨S_, .f32⟩ : BufTy).Contents (Elt F) → (⟨S_, .f32⟩ : BufTy).Contents (Elt F) → (⟨S_, .f32⟩ : BufTy).Contents (Elt F)),
   binary main_v19 main_v55 main_v63 (subf : (⟨S147456x64, .f32⟩ : BufTy).Contents (Elt F) → (⟨S147456x64, .f32⟩ : BufTy).Contents (Elt F) → (⟨S147456x64, .f32⟩ : BufTy).Contents (Elt F)),
   binary main_v63 main_v63 main_v64 (mulf : (⟨S147456x64, .f32⟩ : BufTy).Contents (Elt F) → (⟨S147456x64, .f32⟩ : BufTy).Contents (Elt F) → (⟨S147456x64, .f32⟩ : BufTy).Contents (Elt F)),
   nullary main_cst_8 (constant S_ .f32 0x00000000#32),
   binary main_v64 main_cst_8 main_v65 ((fun x v => Host.reduceAdd x v reducesTo_S147456x64_S_d0_1 h_S_) : (⟨S147456x64, .f32⟩ : BufTy).Contents (Elt F) → (⟨S_, .f32⟩ : BufTy).Contents (Elt F) → (⟨S_, .f32⟩ : BufTy).Contents (Elt F)),
   nullary main_cst_9 (constant S_ .f32 0x4B100000#32),
   binary main_v65 main_cst_9 main_v66 (Host.divf : (⟨S_, .f32⟩ : BufTy).Contents (Elt F) → (⟨S_, .f32⟩ : BufTy).Contents (Elt F) → (⟨S_, .f32⟩ : BufTy).Contents (Elt F)),
   nullary main_cst_10 (constant S_ .f32 0x3E800000#32),
   binary main_cst_10 main_v66 main_v67 (mulf : (⟨S_, .f32⟩ : BufTy).Contents (Elt F) → (⟨S_, .f32⟩ : BufTy).Contents (Elt F) → (⟨S_, .f32⟩ : BufTy).Contents (Elt F)),
   binary main_v62 main_v67 main_v68 (addf : (⟨S_, .f32⟩ : BufTy).Contents (Elt F) → (⟨S_, .f32⟩ : BufTy).Contents (Elt F) → (⟨S_, .f32⟩ : BufTy).Contents (Elt F))]

/-- The operations that compute the latent head of the first level. -/
abbrev lat0 : List (HloOp τ sig (Elt F)) :=
  [unary main_arg5 main_v69 ((extractStridedSlice S1x64x64 ![0, 0, 0] · slices_S3x64x64_S1x64x64_0_0_0) : (⟨S3x64x64, .f32⟩ : BufTy).Contents (Elt F) → (⟨S1x64x64, .f32⟩ : BufTy).Contents (Elt F)),
   reshape main_v69 main_v70 (rfl : (.f32 : EltTy) = .f32) shapeCasts_S1x64x64_S64x64,
   unary main_v70 main_v71 ((transpose S64x64 [1, 0] · transposes_S64x64_S64x64_1_0) : (⟨S64x64, .f32⟩ : BufTy).Contents (Elt F) → (⟨S64x64, .f32⟩ : BufTy).Contents (Elt F)),
   binary main_v10 main_v71 main_v72 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg6 main_v73 ((extractStridedSlice S1x64 ![0, 0] · slices_S3x64_S1x64_0_0) : (⟨S3x64, .f32⟩ : BufTy).Contents (Elt F) → (⟨S1x64, .f32⟩ : BufTy).Contents (Elt F)),
   reshape main_v73 main_v74 (rfl : (.f32 : EltTy) = .f32) shapeCasts_S1x64_S64,
   unary main_v74 main_v75 (broadcastInDim S1x64 ![1] bcast_S64_S1x64_1 : (⟨S64, .f32⟩ : BufTy).Contents (Elt F) → (⟨S1x64, .f32⟩ : BufTy).Contents (Elt F)),
   unary main_v75 main_v76 (broadcastInDim S147456x64 ![0, 1] bcast_S1x64_S147456x64_0_1 : (⟨S1x64, .f32⟩ : BufTy).Contents (Elt F) → (⟨S147456x64, .f32⟩ : BufTy).Contents (Elt F)),
   binary main_v72 main_v76 main_v77 (addf : (⟨S147456x64, .f32⟩ : BufTy).Contents (Elt F) → (⟨S147456x64, .f32⟩ : BufTy).Contents (Elt F) → (⟨S147456x64, .f32⟩ : BufTy).Contents (Elt F))]

/-- The operations that compute the encoder of the second level. -/
abbrev enc1 : List (HloOp τ sig (Elt F)) :=
  [unary main_arg1 main_v78 ((extractStridedSlice S1x64x64 ![1, 0, 0] · slices_S3x64x64_S1x64x64_1_0_0) : (⟨S3x64x64, .f32⟩ : BufTy).Contents (Elt F) → (⟨S1x64x64, .f32⟩ : BufTy).Contents (Elt F)),
   reshape main_v78 main_v79 (rfl : (.f32 : EltTy) = .f32) shapeCasts_S1x64x64_S64x64,
   unary main_v79 main_v80 ((transpose S64x64 [1, 0] · transposes_S64x64_S64x64_1_0) : (⟨S64x64, .f32⟩ : BufTy).Contents (Elt F) → (⟨S64x64, .f32⟩ : BufTy).Contents (Elt F)),
   binary main_v77 main_v80 main_v81 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg2 main_v82 ((extractStridedSlice S1x64 ![1, 0] · slices_S3x64_S1x64_1_0) : (⟨S3x64, .f32⟩ : BufTy).Contents (Elt F) → (⟨S1x64, .f32⟩ : BufTy).Contents (Elt F)),
   reshape main_v82 main_v83 (rfl : (.f32 : EltTy) = .f32) shapeCasts_S1x64_S64,
   unary main_v83 main_v84 (broadcastInDim S1x64 ![1] bcast_S64_S1x64_1 : (⟨S64, .f32⟩ : BufTy).Contents (Elt F) → (⟨S1x64, .f32⟩ : BufTy).Contents (Elt F)),
   unary main_v84 main_v85 (broadcastInDim S147456x64 ![0, 1] bcast_S1x64_S147456x64_0_1 : (⟨S1x64, .f32⟩ : BufTy).Contents (Elt F) → (⟨S147456x64, .f32⟩ : BufTy).Contents (Elt F)),
   binary main_v81 main_v85 main_v86 (addf : (⟨S147456x64, .f32⟩ : BufTy).Contents (Elt F) → (⟨S147456x64, .f32⟩ : BufTy).Contents (Elt F) → (⟨S147456x64, .f32⟩ : BufTy).Contents (Elt F))]

/-- The operations that compute the quantization head of the second level. -/
abbrev head1 : List (HloOp τ sig (Elt F)) :=
  [unary main_arg3 main_v87 ((extractStridedSlice S1x64x64 ![1, 0, 0] · slices_S3x64x64_S1x64x64_1_0_0) : (⟨S3x64x64, .f32⟩ : BufTy).Contents (Elt F) → (⟨S1x64x64, .f32⟩ : BufTy).Contents (Elt F)),
   reshape main_v87 main_v88 (rfl : (.f32 : EltTy) = .f32) shapeCasts_S1x64x64_S64x64,
   unary main_v88 main_v89 ((transpose S64x64 [1, 0] · transposes_S64x64_S64x64_1_0) : (⟨S64x64, .f32⟩ : BufTy).Contents (Elt F) → (⟨S64x64, .f32⟩ : BufTy).Contents (Elt F)),
   binary main_v86 main_v89 main_v90 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg4 main_v91 ((extractStridedSlice S1x64 ![1, 0] · slices_S3x64_S1x64_1_0) : (⟨S3x64, .f32⟩ : BufTy).Contents (Elt F) → (⟨S1x64, .f32⟩ : BufTy).Contents (Elt F)),
   reshape main_v91 main_v92 (rfl : (.f32 : EltTy) = .f32) shapeCasts_S1x64_S64,
   unary main_v92 main_v93 (broadcastInDim S1x64 ![1] bcast_S64_S1x64_1 : (⟨S64, .f32⟩ : BufTy).Contents (Elt F) → (⟨S1x64, .f32⟩ : BufTy).Contents (Elt F)),
   unary main_v93 main_v94 (broadcastInDim S147456x64 ![0, 1] bcast_S1x64_S147456x64_0_1 : (⟨S1x64, .f32⟩ : BufTy).Contents (Elt F) → (⟨S147456x64, .f32⟩ : BufTy).Contents (Elt F)),
   binary main_v90 main_v94 main_v95 (addf : (⟨S147456x64, .f32⟩ : BufTy).Contents (Elt F) → (⟨S147456x64, .f32⟩ : BufTy).Contents (Elt F) → (⟨S147456x64, .f32⟩ : BufTy).Contents (Elt F))]

/-- The operations that compute the distances to the codewords of the second level. -/
abbrev dist1 : List (HloOp τ sig (Elt F)) :=
  [reshape main_v95 main_v96 (rfl : (.f32 : EltTy) = .f32) shapeCasts_S147456x64_S147456x4x16,
   unary main_arg13 main_v97 ((extractStridedSlice S1x4x128x16 ![1, 0, 0, 0] · slices_S3x4x128x16_S1x4x128x16_1_0_0_0) : (⟨S3x4x128x16, .f32⟩ : BufTy).Contents (Elt F) → (⟨S1x4x128x16, .f32⟩ : BufTy).Contents (Elt F)),
   reshape main_v97 main_v98 (rfl : (.f32 : EltTy) = .f32) shapeCasts_S1x4x128x16_S4x128x16,
   binary main_v96 main_v96 main_v99 (mulf : (⟨S147456x4x16, .f32⟩ : BufTy).Contents (Elt F) → (⟨S147456x4x16, .f32⟩ : BufTy).Contents (Elt F) → (⟨S147456x4x16, .f32⟩ : BufTy).Contents (Elt F)),
   nullary main_cst_11 (constant S_ .f32 0x00000000#32),
   binary main_v99 main_cst_11 main_v100 ((fun x v => Host.reduceAdd x v reducesTo_S147456x4x16_S147456x4_d2 h_S_) : (⟨S147456x4x16, .f32⟩ : BufTy).Contents (Elt F) → (⟨S_, .f32⟩ : BufTy).Contents (Elt F) → (⟨S147456x4, .f32⟩ : BufTy).Contents (Elt F)),
   unary main_v100 main_v101 (broadcastInDim S147456x4x1 ![0, 1] bcast_S147456x4_S147456x4x1_0_1 : (⟨S147456x4, .f32⟩ : BufTy).Contents (Elt F) → (⟨S147456x4x1, .f32⟩ : BufTy).Contents (Elt F)),
   binary main_v98 main_v96 main_v102 ((fun l r => Host.dotGeneral dot_S4x128x16_S147456x4x16_S4x128x147456_2_2_1_0_0_1 none l r) : (⟨S4x128x16, .f32⟩ : BufTy).Contents (Elt F) → (⟨S147456x4x16, .f32⟩ : BufTy).Contents (Elt F) → (⟨S4x128x147456, .f32⟩ : BufTy).Contents (Elt F)),
   unary main_v102 main_v103 ((transpose S147456x4x128 [2, 0, 1] · transposes_S4x128x147456_S147456x4x128_2_0_1) : (⟨S4x128x147456, .f32⟩ : BufTy).Contents (Elt F) → (⟨S147456x4x128, .f32⟩ : BufTy).Contents (Elt F)),
   nullary main_cst_12 (constant S_ .f32 0x40000000#32),
   unary main_cst_12 main_v104 (broadcastInDim S147456x4x128 ![] bcast_S_S147456x4x128 : (⟨S_, .f32⟩ : BufTy).Contents (Elt F) → (⟨S147456x4x128, .f32⟩ : BufTy).Contents (Elt F)),
   binary main_v104 main_v103 main_v105 (mulf : (⟨S147456x4x128, .f32⟩ : BufTy).Contents (Elt F) → (⟨S147456x4x128, .f32⟩ : BufTy).Contents (Elt F) → (⟨S147456x4x128, .f32⟩ : BufTy).Contents (Elt F)),
   unary main_v101 main_v106 (broadcastInDim S147456x4x128 ![0, 1, 2] bcast_S147456x4x1_S147456x4x128_0_1_2 : (⟨S147456x4x1, .f32⟩ : BufTy).Contents (Elt F) → (⟨S147456x4x128, .f32⟩ : BufTy).Contents (Elt F)),
   binary main_v106 main_v105 main_v107 (subf : (⟨S147456x4x128, .f32⟩ : BufTy).Contents (Elt F) → (⟨S147456x4x128, .f32⟩ : BufTy).Contents (Elt F) → (⟨S147456x4x128, .f32⟩ : BufTy).Contents (Elt F)),
   binary main_v98 main_v98 main_v108 (mulf : (⟨S4x128x16, .f32⟩ : BufTy).Contents (Elt F) → (⟨S4x128x16, .f32⟩ : BufTy).Contents (Elt F) → (⟨S4x128x16, .f32⟩ : BufTy).Contents (Elt F)),
   nullary main_cst_13 (constant S_ .f32 0x00000000#32),
   binary main_v108 main_cst_13 main_v109 ((fun x v => Host.reduceAdd x v reducesTo_S4x128x16_S4x128_d2 h_S_) : (⟨S4x128x16, .f32⟩ : BufTy).Contents (Elt F) → (⟨S_, .f32⟩ : BufTy).Contents (Elt F) → (⟨S4x128, .f32⟩ : BufTy).Contents (Elt F)),
   unary main_v109 main_v110 (broadcastInDim S1x4x128 ![1, 2] bcast_S4x128_S1x4x128_1_2 : (⟨S4x128, .f32⟩ : BufTy).Contents (Elt F) → (⟨S1x4x128, .f32⟩ : BufTy).Contents (Elt F)),
   unary main_v110 main_v111 (broadcastInDim S147456x4x128 ![0, 1, 2] bcast_S1x4x128_S147456x4x128_0_1_2 : (⟨S1x4x128, .f32⟩ : BufTy).Contents (Elt F) → (⟨S147456x4x128, .f32⟩ : BufTy).Contents (Elt F)),
   binary main_v107 main_v111 main_v112 (addf : (⟨S147456x4x128, .f32⟩ : BufTy).Contents (Elt F) → (⟨S147456x4x128, .f32⟩ : BufTy).Contents (Elt F) → (⟨S147456x4x128, .f32⟩ : BufTy).Contents (Elt F))]

/-- The operations that compute the nearest codeword of the second level. -/
abbrev amin1 : List (HloOp τ sig (Elt F)) :=
  [TRef.nullary (TRef.of (T := ⟨S147456x4x128, .i32⟩) main_call1_v0) (iotaInDim S147456x4x128 32 2),
   TRef.nullary (TRef.of (T := ⟨S_, .f32⟩) main_call1_cst) (constant S_ .f32 0x7F800000#32),
   TRef.nullary (TRef.of (T := ⟨S_, .i32⟩) main_call1_c) (constantI S_ 32 0#32),
   TRef.quaternary (TRef.of (T := ⟨S147456x4x128, .f32⟩) main_v112) (TRef.of (T := ⟨S147456x4x128, .i32⟩) main_call1_v0) (TRef.of (T := ⟨S_, .f32⟩) main_call1_cst) (TRef.of (T := ⟨S_, .i32⟩) main_call1_c) (TRef.of (T := ⟨S147456x4, .f32⟩) main_call1_v1_0) (fun x y u v j => (Host.argReduce reducer_argmin_f32_i32 x y u v reducesTo_S147456x4x128_S147456x4_d2 h_S_ j).1),
   TRef.quaternary (TRef.of (T := ⟨S147456x4x128, .f32⟩) main_v112) (TRef.of (T := ⟨S147456x4x128, .i32⟩) main_call1_v0) (TRef.of (T := ⟨S_, .f32⟩) main_call1_cst) (TRef.of (T := ⟨S_, .i32⟩) main_call1_c) (TRef.of (T := ⟨S147456x4, .i32⟩) main_v113) (fun x y u v j => (Host.argReduce reducer_argmin_f32_i32 x y u v reducesTo_S147456x4x128_S147456x4_d2 h_S_ j).2)]

/-- The operations that compute the codewords chosen at the second level. -/
abbrev pick1 : List (HloOp τ sig (Elt F)) :=
  [nullary main_v114 (iotaInDim S4 32 0),
   unary main_v114 main_v115 (broadcastInDim S1x4 ![1] bcast_S4_S1x4_1 : (⟨S4, .i32⟩ : BufTy).Contents (Elt F) → (⟨S1x4, .i32⟩ : BufTy).Contents (Elt F)),
   nullary main_c_14 (constantI S_ 32 0#32),
   unary main_c_14 main_v116 (broadcastInDim S1x4 ![] bcast_S_S1x4 : (⟨S_, .i32⟩ : BufTy).Contents (Elt F) → (⟨S1x4, .i32⟩ : BufTy).Contents (Elt F)),
   binary main_v115 main_v116 main_v117 (cmpi .slt : (⟨S1x4, .i32⟩ : BufTy).Contents (Elt F) → (⟨S1x4, .i32⟩ : BufTy).Contents (Elt F) → (⟨S1x4, .i1⟩ : BufTy).Contents (Elt F)),
   nullary main_c_15 (constantI S_ 32 4#32),
   unary main_c_15 main_v118 (broadcastInDim S1x4 ![] bcast_S_S1x4 : (⟨S_, .i32⟩ : BufTy).Contents (Elt F) → (⟨S1x4, .i32⟩ : BufTy).Contents (Elt F)),
   binary main_v115 main_v118 main_v119 (addi : (⟨S1x4, .i32⟩ : BufTy).Contents (Elt F) → (⟨S1x4, .i32⟩ : BufTy).Contents (Elt F) → (⟨S1x4, .i32⟩ : BufTy).Contents (Elt F)),
   ternary main_v117 main_v119 main_v115 main_v120 (select : (⟨S1x4, .i1⟩ : BufTy).Contents (Elt F) → (⟨S1x4, .i32⟩ : BufTy).Contents (Elt F) → (⟨S1x4, .i32⟩ : BufTy).Contents (Elt F) → (⟨S1x4, .i32⟩ : BufTy).Contents (Elt F)),
   nullary main_c_16 (constantI S_ 32 0#32),
   unary main_c_16 main_v121 (broadcastInDim S147456x4 ![] bcast_S_S147456x4 : (⟨S_, .i32⟩ : BufTy).Contents (Elt F) → (⟨S147456x4, .i32⟩ : BufTy).Contents (Elt F)),
   binary main_v113 main_v121 main_v122 (cmpi .slt : (⟨S147456x4, .i32⟩ : BufTy).Contents (Elt F) → (⟨S147456x4, .i32⟩ : BufTy).Contents (Elt F) → (⟨S147456x4, .i1⟩ : BufTy).Contents (Elt F)),
   nullary main_c_17 (constantI S_ 32 128#32),
   unary main_c_17 main_v123 (broadcastInDim S147456x4 ![] bcast_S_S147456x4 : (⟨S_, .i32⟩ : BufTy).Contents (Elt F) → (⟨S147456x4, .i32⟩ : BufTy).Contents (Elt F)),
   binary main_v113 main_v123 main_v124 (addi : (⟨S147456x4, .i32⟩ : BufTy).Contents (Elt F) → (⟨S147456x4, .i32⟩ : BufTy).Contents (Elt F) → (⟨S147456x4, .i32⟩ : BufTy).Contents (Elt F)),
   ternary main_v122 main_v124 main_v113 main_v125 (select : (⟨S147456x4, .i1⟩ : BufTy).Contents (Elt F) → (⟨S147456x4, .i32⟩ : BufTy).Contents (Elt F) → (⟨S147456x4, .i32⟩ : BufTy).Contents (Elt F) → (⟨S147456x4, .i32⟩ : BufTy).Contents (Elt F)),
   unary main_v120 main_v126 (broadcastInDim S147456x4 ![0, 1] bcast_S1x4_S147456x4_0_1 : (⟨S1x4, .i32⟩ : BufTy).Contents (Elt F) → (⟨S147456x4, .i32⟩ : BufTy).Contents (Elt F)),
   unary main_v126 main_v127 (broadcastInDim S147456x4x1 ![0, 1] bcast_S147456x4_S147456x4x1_0_1 : (⟨S147456x4, .i32⟩ : BufTy).Contents (Elt F) → (⟨S147456x4x1, .i32⟩ : BufTy).Contents (Elt F)),
   unary main_v125 main_v128 (broadcastInDim S147456x4x1 ![0, 1] bcast_S147456x4_S147456x4x1_0_1 : (⟨S147456x4, .i32⟩ : BufTy).Contents (Elt F) → (⟨S147456x4x1, .i32⟩ : BufTy).Contents (Elt F)),
   binary main_v127 main_v128 main_v129 pairIdx,
   binary main_v98 main_v129 main_v130 ((fun x i => Host.gather gather_S4x128x16_S147456x4x2_S147456x4x16_2_01_n_n_01_2_1116 x i) : (⟨S4x128x16, .f32⟩ : BufTy).Contents (Elt F) → (⟨S147456x4x2, .i32⟩ : BufTy).Contents (Elt F) → (⟨S147456x4x16, .f32⟩ : BufTy).Contents (Elt F)),
   reshape main_v130 main_v131 (rfl : (.f32 : EltTy) = .f32) shapeCasts_S147456x4x16_S147456x64]

/-- The operations that compute the quantized tokens of the second level. -/
abbrev quant1 : List (HloOp τ sig (Elt F)) :=
  [binary main_v131 main_v95 main_v132 (subf : (⟨S147456x64, .f32⟩ : BufTy).Contents (Elt F) → (⟨S147456x64, .f32⟩ : BufTy).Contents (Elt F) → (⟨S147456x64, .f32⟩ : BufTy).Contents (Elt F)),
   binary main_v95 main_v132 main_v133 (addf : (⟨S147456x64, .f32⟩ : BufTy).Contents (Elt F) → (⟨S147456x64, .f32⟩ : BufTy).Contents (Elt F) → (⟨S147456x64, .f32⟩ : BufTy).Contents (Elt F))]

/-- The operations that compute the loss after the second level. -/
abbrev loss1 : List (HloOp τ sig (Elt F)) :=
  [binary main_v95 main_v131 main_v134 (subf : (⟨S147456x64, .f32⟩ : BufTy).Contents (Elt F) → (⟨S147456x64, .f32⟩ : BufTy).Contents (Elt F) → (⟨S147456x64, .f32⟩ : BufTy).Contents (Elt F)),
   binary main_v134 main_v134 main_v135 (mulf : (⟨S147456x64, .f32⟩ : BufTy).Contents (Elt F) → (⟨S147456x64, .f32⟩ : BufTy).Contents (Elt F) → (⟨S147456x64, .f32⟩ : BufTy).Contents (Elt F)),
   nullary main_cst_18 (constant S_ .f32 0x00000000#32),
   binary main_v135 main_cst_18 main_v136 ((fun x v => Host.reduceAdd x v reducesTo_S147456x64_S_d0_1 h_S_) : (⟨S147456x64, .f32⟩ : BufTy).Contents (Elt F) → (⟨S_, .f32⟩ : BufTy).Contents (Elt F) → (⟨S_, .f32⟩ : BufTy).Contents (Elt F)),
   nullary main_cst_19 (constant S_ .f32 0x4B100000#32),
   binary main_v136 main_cst_19 main_v137 (Host.divf : (⟨S_, .f32⟩ : BufTy).Contents (Elt F) → (⟨S_, .f32⟩ : BufTy).Contents (Elt F) → (⟨S_, .f32⟩ : BufTy).Contents (Elt F)),
   binary main_v68 main_v137 main_v138 (addf : (⟨S_, .f32⟩ : BufTy).Contents (Elt F) → (⟨S_, .f32⟩ : BufTy).Contents (Elt F) → (⟨S_, .f32⟩ : BufTy).Contents (Elt F)),
   binary main_v95 main_v131 main_v139 (subf : (⟨S147456x64, .f32⟩ : BufTy).Contents (Elt F) → (⟨S147456x64, .f32⟩ : BufTy).Contents (Elt F) → (⟨S147456x64, .f32⟩ : BufTy).Contents (Elt F)),
   binary main_v139 main_v139 main_v140 (mulf : (⟨S147456x64, .f32⟩ : BufTy).Contents (Elt F) → (⟨S147456x64, .f32⟩ : BufTy).Contents (Elt F) → (⟨S147456x64, .f32⟩ : BufTy).Contents (Elt F)),
   nullary main_cst_20 (constant S_ .f32 0x00000000#32),
   binary main_v140 main_cst_20 main_v141 ((fun x v => Host.reduceAdd x v reducesTo_S147456x64_S_d0_1 h_S_) : (⟨S147456x64, .f32⟩ : BufTy).Contents (Elt F) → (⟨S_, .f32⟩ : BufTy).Contents (Elt F) → (⟨S_, .f32⟩ : BufTy).Contents (Elt F)),
   nullary main_cst_21 (constant S_ .f32 0x4B100000#32),
   binary main_v141 main_cst_21 main_v142 (Host.divf : (⟨S_, .f32⟩ : BufTy).Contents (Elt F) → (⟨S_, .f32⟩ : BufTy).Contents (Elt F) → (⟨S_, .f32⟩ : BufTy).Contents (Elt F)),
   nullary main_cst_22 (constant S_ .f32 0x3E800000#32),
   binary main_cst_22 main_v142 main_v143 (mulf : (⟨S_, .f32⟩ : BufTy).Contents (Elt F) → (⟨S_, .f32⟩ : BufTy).Contents (Elt F) → (⟨S_, .f32⟩ : BufTy).Contents (Elt F)),
   binary main_v138 main_v143 main_v144 (addf : (⟨S_, .f32⟩ : BufTy).Contents (Elt F) → (⟨S_, .f32⟩ : BufTy).Contents (Elt F) → (⟨S_, .f32⟩ : BufTy).Contents (Elt F))]

/-- The operations that compute the latent head of the second level. -/
abbrev lat1 : List (HloOp τ sig (Elt F)) :=
  [unary main_arg5 main_v145 ((extractStridedSlice S1x64x64 ![1, 0, 0] · slices_S3x64x64_S1x64x64_1_0_0) : (⟨S3x64x64, .f32⟩ : BufTy).Contents (Elt F) → (⟨S1x64x64, .f32⟩ : BufTy).Contents (Elt F)),
   reshape main_v145 main_v146 (rfl : (.f32 : EltTy) = .f32) shapeCasts_S1x64x64_S64x64,
   unary main_v146 main_v147 ((transpose S64x64 [1, 0] · transposes_S64x64_S64x64_1_0) : (⟨S64x64, .f32⟩ : BufTy).Contents (Elt F) → (⟨S64x64, .f32⟩ : BufTy).Contents (Elt F)),
   binary main_v86 main_v147 main_v148 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg6 main_v149 ((extractStridedSlice S1x64 ![1, 0] · slices_S3x64_S1x64_1_0) : (⟨S3x64, .f32⟩ : BufTy).Contents (Elt F) → (⟨S1x64, .f32⟩ : BufTy).Contents (Elt F)),
   reshape main_v149 main_v150 (rfl : (.f32 : EltTy) = .f32) shapeCasts_S1x64_S64,
   unary main_v150 main_v151 (broadcastInDim S1x64 ![1] bcast_S64_S1x64_1 : (⟨S64, .f32⟩ : BufTy).Contents (Elt F) → (⟨S1x64, .f32⟩ : BufTy).Contents (Elt F)),
   unary main_v151 main_v152 (broadcastInDim S147456x64 ![0, 1] bcast_S1x64_S147456x64_0_1 : (⟨S1x64, .f32⟩ : BufTy).Contents (Elt F) → (⟨S147456x64, .f32⟩ : BufTy).Contents (Elt F)),
   binary main_v148 main_v152 main_v153 (addf : (⟨S147456x64, .f32⟩ : BufTy).Contents (Elt F) → (⟨S147456x64, .f32⟩ : BufTy).Contents (Elt F) → (⟨S147456x64, .f32⟩ : BufTy).Contents (Elt F))]

/-- The operations that compute the encoder of the third level. -/
abbrev enc2 : List (HloOp τ sig (Elt F)) :=
  [unary main_arg1 main_v154 ((extractStridedSlice S1x64x64 ![2, 0, 0] · slices_S3x64x64_S1x64x64_2_0_0) : (⟨S3x64x64, .f32⟩ : BufTy).Contents (Elt F) → (⟨S1x64x64, .f32⟩ : BufTy).Contents (Elt F)),
   reshape main_v154 main_v155 (rfl : (.f32 : EltTy) = .f32) shapeCasts_S1x64x64_S64x64,
   unary main_v155 main_v156 ((transpose S64x64 [1, 0] · transposes_S64x64_S64x64_1_0) : (⟨S64x64, .f32⟩ : BufTy).Contents (Elt F) → (⟨S64x64, .f32⟩ : BufTy).Contents (Elt F)),
   binary main_v153 main_v156 main_v157 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg2 main_v158 ((extractStridedSlice S1x64 ![2, 0] · slices_S3x64_S1x64_2_0) : (⟨S3x64, .f32⟩ : BufTy).Contents (Elt F) → (⟨S1x64, .f32⟩ : BufTy).Contents (Elt F)),
   reshape main_v158 main_v159 (rfl : (.f32 : EltTy) = .f32) shapeCasts_S1x64_S64,
   unary main_v159 main_v160 (broadcastInDim S1x64 ![1] bcast_S64_S1x64_1 : (⟨S64, .f32⟩ : BufTy).Contents (Elt F) → (⟨S1x64, .f32⟩ : BufTy).Contents (Elt F)),
   unary main_v160 main_v161 (broadcastInDim S147456x64 ![0, 1] bcast_S1x64_S147456x64_0_1 : (⟨S1x64, .f32⟩ : BufTy).Contents (Elt F) → (⟨S147456x64, .f32⟩ : BufTy).Contents (Elt F)),
   binary main_v157 main_v161 main_v162 (addf : (⟨S147456x64, .f32⟩ : BufTy).Contents (Elt F) → (⟨S147456x64, .f32⟩ : BufTy).Contents (Elt F) → (⟨S147456x64, .f32⟩ : BufTy).Contents (Elt F))]

/-- The operations that compute the quantization head of the third level. -/
abbrev head2 : List (HloOp τ sig (Elt F)) :=
  [unary main_arg3 main_v163 ((extractStridedSlice S1x64x64 ![2, 0, 0] · slices_S3x64x64_S1x64x64_2_0_0) : (⟨S3x64x64, .f32⟩ : BufTy).Contents (Elt F) → (⟨S1x64x64, .f32⟩ : BufTy).Contents (Elt F)),
   reshape main_v163 main_v164 (rfl : (.f32 : EltTy) = .f32) shapeCasts_S1x64x64_S64x64,
   unary main_v164 main_v165 ((transpose S64x64 [1, 0] · transposes_S64x64_S64x64_1_0) : (⟨S64x64, .f32⟩ : BufTy).Contents (Elt F) → (⟨S64x64, .f32⟩ : BufTy).Contents (Elt F)),
   binary main_v162 main_v165 main_v166 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg4 main_v167 ((extractStridedSlice S1x64 ![2, 0] · slices_S3x64_S1x64_2_0) : (⟨S3x64, .f32⟩ : BufTy).Contents (Elt F) → (⟨S1x64, .f32⟩ : BufTy).Contents (Elt F)),
   reshape main_v167 main_v168 (rfl : (.f32 : EltTy) = .f32) shapeCasts_S1x64_S64,
   unary main_v168 main_v169 (broadcastInDim S1x64 ![1] bcast_S64_S1x64_1 : (⟨S64, .f32⟩ : BufTy).Contents (Elt F) → (⟨S1x64, .f32⟩ : BufTy).Contents (Elt F)),
   unary main_v169 main_v170 (broadcastInDim S147456x64 ![0, 1] bcast_S1x64_S147456x64_0_1 : (⟨S1x64, .f32⟩ : BufTy).Contents (Elt F) → (⟨S147456x64, .f32⟩ : BufTy).Contents (Elt F)),
   binary main_v166 main_v170 main_v171 (addf : (⟨S147456x64, .f32⟩ : BufTy).Contents (Elt F) → (⟨S147456x64, .f32⟩ : BufTy).Contents (Elt F) → (⟨S147456x64, .f32⟩ : BufTy).Contents (Elt F))]

/-- The operations that compute the distances to the codewords of the third level. -/
abbrev dist2 : List (HloOp τ sig (Elt F)) :=
  [reshape main_v171 main_v172 (rfl : (.f32 : EltTy) = .f32) shapeCasts_S147456x64_S147456x4x16,
   unary main_arg13 main_v173 ((extractStridedSlice S1x4x128x16 ![2, 0, 0, 0] · slices_S3x4x128x16_S1x4x128x16_2_0_0_0) : (⟨S3x4x128x16, .f32⟩ : BufTy).Contents (Elt F) → (⟨S1x4x128x16, .f32⟩ : BufTy).Contents (Elt F)),
   reshape main_v173 main_v174 (rfl : (.f32 : EltTy) = .f32) shapeCasts_S1x4x128x16_S4x128x16,
   binary main_v172 main_v172 main_v175 (mulf : (⟨S147456x4x16, .f32⟩ : BufTy).Contents (Elt F) → (⟨S147456x4x16, .f32⟩ : BufTy).Contents (Elt F) → (⟨S147456x4x16, .f32⟩ : BufTy).Contents (Elt F)),
   nullary main_cst_23 (constant S_ .f32 0x00000000#32),
   binary main_v175 main_cst_23 main_v176 ((fun x v => Host.reduceAdd x v reducesTo_S147456x4x16_S147456x4_d2 h_S_) : (⟨S147456x4x16, .f32⟩ : BufTy).Contents (Elt F) → (⟨S_, .f32⟩ : BufTy).Contents (Elt F) → (⟨S147456x4, .f32⟩ : BufTy).Contents (Elt F)),
   unary main_v176 main_v177 (broadcastInDim S147456x4x1 ![0, 1] bcast_S147456x4_S147456x4x1_0_1 : (⟨S147456x4, .f32⟩ : BufTy).Contents (Elt F) → (⟨S147456x4x1, .f32⟩ : BufTy).Contents (Elt F)),
   binary main_v174 main_v172 main_v178 ((fun l r => Host.dotGeneral dot_S4x128x16_S147456x4x16_S4x128x147456_2_2_1_0_0_1 none l r) : (⟨S4x128x16, .f32⟩ : BufTy).Contents (Elt F) → (⟨S147456x4x16, .f32⟩ : BufTy).Contents (Elt F) → (⟨S4x128x147456, .f32⟩ : BufTy).Contents (Elt F)),
   unary main_v178 main_v179 ((transpose S147456x4x128 [2, 0, 1] · transposes_S4x128x147456_S147456x4x128_2_0_1) : (⟨S4x128x147456, .f32⟩ : BufTy).Contents (Elt F) → (⟨S147456x4x128, .f32⟩ : BufTy).Contents (Elt F)),
   nullary main_cst_24 (constant S_ .f32 0x40000000#32),
   unary main_cst_24 main_v180 (broadcastInDim S147456x4x128 ![] bcast_S_S147456x4x128 : (⟨S_, .f32⟩ : BufTy).Contents (Elt F) → (⟨S147456x4x128, .f32⟩ : BufTy).Contents (Elt F)),
   binary main_v180 main_v179 main_v181 (mulf : (⟨S147456x4x128, .f32⟩ : BufTy).Contents (Elt F) → (⟨S147456x4x128, .f32⟩ : BufTy).Contents (Elt F) → (⟨S147456x4x128, .f32⟩ : BufTy).Contents (Elt F)),
   unary main_v177 main_v182 (broadcastInDim S147456x4x128 ![0, 1, 2] bcast_S147456x4x1_S147456x4x128_0_1_2 : (⟨S147456x4x1, .f32⟩ : BufTy).Contents (Elt F) → (⟨S147456x4x128, .f32⟩ : BufTy).Contents (Elt F)),
   binary main_v182 main_v181 main_v183 (subf : (⟨S147456x4x128, .f32⟩ : BufTy).Contents (Elt F) → (⟨S147456x4x128, .f32⟩ : BufTy).Contents (Elt F) → (⟨S147456x4x128, .f32⟩ : BufTy).Contents (Elt F)),
   binary main_v174 main_v174 main_v184 (mulf : (⟨S4x128x16, .f32⟩ : BufTy).Contents (Elt F) → (⟨S4x128x16, .f32⟩ : BufTy).Contents (Elt F) → (⟨S4x128x16, .f32⟩ : BufTy).Contents (Elt F)),
   nullary main_cst_25 (constant S_ .f32 0x00000000#32),
   binary main_v184 main_cst_25 main_v185 ((fun x v => Host.reduceAdd x v reducesTo_S4x128x16_S4x128_d2 h_S_) : (⟨S4x128x16, .f32⟩ : BufTy).Contents (Elt F) → (⟨S_, .f32⟩ : BufTy).Contents (Elt F) → (⟨S4x128, .f32⟩ : BufTy).Contents (Elt F)),
   unary main_v185 main_v186 (broadcastInDim S1x4x128 ![1, 2] bcast_S4x128_S1x4x128_1_2 : (⟨S4x128, .f32⟩ : BufTy).Contents (Elt F) → (⟨S1x4x128, .f32⟩ : BufTy).Contents (Elt F)),
   unary main_v186 main_v187 (broadcastInDim S147456x4x128 ![0, 1, 2] bcast_S1x4x128_S147456x4x128_0_1_2 : (⟨S1x4x128, .f32⟩ : BufTy).Contents (Elt F) → (⟨S147456x4x128, .f32⟩ : BufTy).Contents (Elt F)),
   binary main_v183 main_v187 main_v188 (addf : (⟨S147456x4x128, .f32⟩ : BufTy).Contents (Elt F) → (⟨S147456x4x128, .f32⟩ : BufTy).Contents (Elt F) → (⟨S147456x4x128, .f32⟩ : BufTy).Contents (Elt F))]

/-- The operations that compute the nearest codeword of the third level. -/
abbrev amin2 : List (HloOp τ sig (Elt F)) :=
  [TRef.nullary (TRef.of (T := ⟨S147456x4x128, .i32⟩) main_call2_v0) (iotaInDim S147456x4x128 32 2),
   TRef.nullary (TRef.of (T := ⟨S_, .f32⟩) main_call2_cst) (constant S_ .f32 0x7F800000#32),
   TRef.nullary (TRef.of (T := ⟨S_, .i32⟩) main_call2_c) (constantI S_ 32 0#32),
   TRef.quaternary (TRef.of (T := ⟨S147456x4x128, .f32⟩) main_v188) (TRef.of (T := ⟨S147456x4x128, .i32⟩) main_call2_v0) (TRef.of (T := ⟨S_, .f32⟩) main_call2_cst) (TRef.of (T := ⟨S_, .i32⟩) main_call2_c) (TRef.of (T := ⟨S147456x4, .f32⟩) main_call2_v1_0) (fun x y u v j => (Host.argReduce reducer_argmin_f32_i32 x y u v reducesTo_S147456x4x128_S147456x4_d2 h_S_ j).1),
   TRef.quaternary (TRef.of (T := ⟨S147456x4x128, .f32⟩) main_v188) (TRef.of (T := ⟨S147456x4x128, .i32⟩) main_call2_v0) (TRef.of (T := ⟨S_, .f32⟩) main_call2_cst) (TRef.of (T := ⟨S_, .i32⟩) main_call2_c) (TRef.of (T := ⟨S147456x4, .i32⟩) main_v189) (fun x y u v j => (Host.argReduce reducer_argmin_f32_i32 x y u v reducesTo_S147456x4x128_S147456x4_d2 h_S_ j).2)]

/-- The operations that compute the codewords chosen at the third level. -/
abbrev pick2 : List (HloOp τ sig (Elt F)) :=
  [nullary main_v190 (iotaInDim S4 32 0),
   unary main_v190 main_v191 (broadcastInDim S1x4 ![1] bcast_S4_S1x4_1 : (⟨S4, .i32⟩ : BufTy).Contents (Elt F) → (⟨S1x4, .i32⟩ : BufTy).Contents (Elt F)),
   nullary main_c_26 (constantI S_ 32 0#32),
   unary main_c_26 main_v192 (broadcastInDim S1x4 ![] bcast_S_S1x4 : (⟨S_, .i32⟩ : BufTy).Contents (Elt F) → (⟨S1x4, .i32⟩ : BufTy).Contents (Elt F)),
   binary main_v191 main_v192 main_v193 (cmpi .slt : (⟨S1x4, .i32⟩ : BufTy).Contents (Elt F) → (⟨S1x4, .i32⟩ : BufTy).Contents (Elt F) → (⟨S1x4, .i1⟩ : BufTy).Contents (Elt F)),
   nullary main_c_27 (constantI S_ 32 4#32),
   unary main_c_27 main_v194 (broadcastInDim S1x4 ![] bcast_S_S1x4 : (⟨S_, .i32⟩ : BufTy).Contents (Elt F) → (⟨S1x4, .i32⟩ : BufTy).Contents (Elt F)),
   binary main_v191 main_v194 main_v195 (addi : (⟨S1x4, .i32⟩ : BufTy).Contents (Elt F) → (⟨S1x4, .i32⟩ : BufTy).Contents (Elt F) → (⟨S1x4, .i32⟩ : BufTy).Contents (Elt F)),
   ternary main_v193 main_v195 main_v191 main_v196 (select : (⟨S1x4, .i1⟩ : BufTy).Contents (Elt F) → (⟨S1x4, .i32⟩ : BufTy).Contents (Elt F) → (⟨S1x4, .i32⟩ : BufTy).Contents (Elt F) → (⟨S1x4, .i32⟩ : BufTy).Contents (Elt F)),
   nullary main_c_28 (constantI S_ 32 0#32),
   unary main_c_28 main_v197 (broadcastInDim S147456x4 ![] bcast_S_S147456x4 : (⟨S_, .i32⟩ : BufTy).Contents (Elt F) → (⟨S147456x4, .i32⟩ : BufTy).Contents (Elt F)),
   binary main_v189 main_v197 main_v198 (cmpi .slt : (⟨S147456x4, .i32⟩ : BufTy).Contents (Elt F) → (⟨S147456x4, .i32⟩ : BufTy).Contents (Elt F) → (⟨S147456x4, .i1⟩ : BufTy).Contents (Elt F)),
   nullary main_c_29 (constantI S_ 32 128#32),
   unary main_c_29 main_v199 (broadcastInDim S147456x4 ![] bcast_S_S147456x4 : (⟨S_, .i32⟩ : BufTy).Contents (Elt F) → (⟨S147456x4, .i32⟩ : BufTy).Contents (Elt F)),
   binary main_v189 main_v199 main_v200 (addi : (⟨S147456x4, .i32⟩ : BufTy).Contents (Elt F) → (⟨S147456x4, .i32⟩ : BufTy).Contents (Elt F) → (⟨S147456x4, .i32⟩ : BufTy).Contents (Elt F)),
   ternary main_v198 main_v200 main_v189 main_v201 (select : (⟨S147456x4, .i1⟩ : BufTy).Contents (Elt F) → (⟨S147456x4, .i32⟩ : BufTy).Contents (Elt F) → (⟨S147456x4, .i32⟩ : BufTy).Contents (Elt F) → (⟨S147456x4, .i32⟩ : BufTy).Contents (Elt F)),
   unary main_v196 main_v202 (broadcastInDim S147456x4 ![0, 1] bcast_S1x4_S147456x4_0_1 : (⟨S1x4, .i32⟩ : BufTy).Contents (Elt F) → (⟨S147456x4, .i32⟩ : BufTy).Contents (Elt F)),
   unary main_v202 main_v203 (broadcastInDim S147456x4x1 ![0, 1] bcast_S147456x4_S147456x4x1_0_1 : (⟨S147456x4, .i32⟩ : BufTy).Contents (Elt F) → (⟨S147456x4x1, .i32⟩ : BufTy).Contents (Elt F)),
   unary main_v201 main_v204 (broadcastInDim S147456x4x1 ![0, 1] bcast_S147456x4_S147456x4x1_0_1 : (⟨S147456x4, .i32⟩ : BufTy).Contents (Elt F) → (⟨S147456x4x1, .i32⟩ : BufTy).Contents (Elt F)),
   binary main_v203 main_v204 main_v205 pairIdx,
   binary main_v174 main_v205 main_v206 ((fun x i => Host.gather gather_S4x128x16_S147456x4x2_S147456x4x16_2_01_n_n_01_2_1116 x i) : (⟨S4x128x16, .f32⟩ : BufTy).Contents (Elt F) → (⟨S147456x4x2, .i32⟩ : BufTy).Contents (Elt F) → (⟨S147456x4x16, .f32⟩ : BufTy).Contents (Elt F)),
   reshape main_v206 main_v207 (rfl : (.f32 : EltTy) = .f32) shapeCasts_S147456x4x16_S147456x64]

/-- The operations that compute the quantized tokens of the third level. -/
abbrev quant2 : List (HloOp τ sig (Elt F)) :=
  [binary main_v207 main_v171 main_v208 (subf : (⟨S147456x64, .f32⟩ : BufTy).Contents (Elt F) → (⟨S147456x64, .f32⟩ : BufTy).Contents (Elt F) → (⟨S147456x64, .f32⟩ : BufTy).Contents (Elt F)),
   binary main_v171 main_v208 main_v209 (addf : (⟨S147456x64, .f32⟩ : BufTy).Contents (Elt F) → (⟨S147456x64, .f32⟩ : BufTy).Contents (Elt F) → (⟨S147456x64, .f32⟩ : BufTy).Contents (Elt F))]

/-- The operations that compute the loss after the third level. -/
abbrev loss2 : List (HloOp τ sig (Elt F)) :=
  [binary main_v171 main_v207 main_v210 (subf : (⟨S147456x64, .f32⟩ : BufTy).Contents (Elt F) → (⟨S147456x64, .f32⟩ : BufTy).Contents (Elt F) → (⟨S147456x64, .f32⟩ : BufTy).Contents (Elt F)),
   binary main_v210 main_v210 main_v211 (mulf : (⟨S147456x64, .f32⟩ : BufTy).Contents (Elt F) → (⟨S147456x64, .f32⟩ : BufTy).Contents (Elt F) → (⟨S147456x64, .f32⟩ : BufTy).Contents (Elt F)),
   nullary main_cst_30 (constant S_ .f32 0x00000000#32),
   binary main_v211 main_cst_30 main_v212 ((fun x v => Host.reduceAdd x v reducesTo_S147456x64_S_d0_1 h_S_) : (⟨S147456x64, .f32⟩ : BufTy).Contents (Elt F) → (⟨S_, .f32⟩ : BufTy).Contents (Elt F) → (⟨S_, .f32⟩ : BufTy).Contents (Elt F)),
   nullary main_cst_31 (constant S_ .f32 0x4B100000#32),
   binary main_v212 main_cst_31 main_v213 (Host.divf : (⟨S_, .f32⟩ : BufTy).Contents (Elt F) → (⟨S_, .f32⟩ : BufTy).Contents (Elt F) → (⟨S_, .f32⟩ : BufTy).Contents (Elt F)),
   binary main_v144 main_v213 main_v214 (addf : (⟨S_, .f32⟩ : BufTy).Contents (Elt F) → (⟨S_, .f32⟩ : BufTy).Contents (Elt F) → (⟨S_, .f32⟩ : BufTy).Contents (Elt F)),
   binary main_v171 main_v207 main_v215 (subf : (⟨S147456x64, .f32⟩ : BufTy).Contents (Elt F) → (⟨S147456x64, .f32⟩ : BufTy).Contents (Elt F) → (⟨S147456x64, .f32⟩ : BufTy).Contents (Elt F)),
   binary main_v215 main_v215 main_v216 (mulf : (⟨S147456x64, .f32⟩ : BufTy).Contents (Elt F) → (⟨S147456x64, .f32⟩ : BufTy).Contents (Elt F) → (⟨S147456x64, .f32⟩ : BufTy).Contents (Elt F)),
   nullary main_cst_32 (constant S_ .f32 0x00000000#32),
   binary main_v216 main_cst_32 main_v217 ((fun x v => Host.reduceAdd x v reducesTo_S147456x64_S_d0_1 h_S_) : (⟨S147456x64, .f32⟩ : BufTy).Contents (Elt F) → (⟨S_, .f32⟩ : BufTy).Contents (Elt F) → (⟨S_, .f32⟩ : BufTy).Contents (Elt F)),
   nullary main_cst_33 (constant S_ .f32 0x4B100000#32),
   binary main_v217 main_cst_33 main_v218 (Host.divf : (⟨S_, .f32⟩ : BufTy).Contents (Elt F) → (⟨S_, .f32⟩ : BufTy).Contents (Elt F) → (⟨S_, .f32⟩ : BufTy).Contents (Elt F)),
   nullary main_cst_34 (constant S_ .f32 0x3E800000#32),
   binary main_cst_34 main_v218 main_v219 (mulf : (⟨S_, .f32⟩ : BufTy).Contents (Elt F) → (⟨S_, .f32⟩ : BufTy).Contents (Elt F) → (⟨S_, .f32⟩ : BufTy).Contents (Elt F)),
   binary main_v214 main_v219 main_v220 (addf : (⟨S_, .f32⟩ : BufTy).Contents (Elt F) → (⟨S_, .f32⟩ : BufTy).Contents (Elt F) → (⟨S_, .f32⟩ : BufTy).Contents (Elt F))]

/-- The operations that compute the latent head of the third level. -/
abbrev lat2 : List (HloOp τ sig (Elt F)) :=
  [unary main_arg5 main_v221 ((extractStridedSlice S1x64x64 ![2, 0, 0] · slices_S3x64x64_S1x64x64_2_0_0) : (⟨S3x64x64, .f32⟩ : BufTy).Contents (Elt F) → (⟨S1x64x64, .f32⟩ : BufTy).Contents (Elt F)),
   reshape main_v221 main_v222 (rfl : (.f32 : EltTy) = .f32) shapeCasts_S1x64x64_S64x64,
   unary main_v222 main_v223 ((transpose S64x64 [1, 0] · transposes_S64x64_S64x64_1_0) : (⟨S64x64, .f32⟩ : BufTy).Contents (Elt F) → (⟨S64x64, .f32⟩ : BufTy).Contents (Elt F)),
   binary main_v162 main_v223 main_v224 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg6 main_v225 ((extractStridedSlice S1x64 ![2, 0] · slices_S3x64_S1x64_2_0) : (⟨S3x64, .f32⟩ : BufTy).Contents (Elt F) → (⟨S1x64, .f32⟩ : BufTy).Contents (Elt F)),
   reshape main_v225 main_v226 (rfl : (.f32 : EltTy) = .f32) shapeCasts_S1x64_S64,
   unary main_v226 main_v227 (broadcastInDim S1x64 ![1] bcast_S64_S1x64_1 : (⟨S64, .f32⟩ : BufTy).Contents (Elt F) → (⟨S1x64, .f32⟩ : BufTy).Contents (Elt F)),
   unary main_v227 main_v228 (broadcastInDim S147456x64 ![0, 1] bcast_S1x64_S147456x64_0_1 : (⟨S1x64, .f32⟩ : BufTy).Contents (Elt F) → (⟨S147456x64, .f32⟩ : BufTy).Contents (Elt F)),
   binary main_v224 main_v228 main_v229 (addf : (⟨S147456x64, .f32⟩ : BufTy).Contents (Elt F) → (⟨S147456x64, .f32⟩ : BufTy).Contents (Elt F) → (⟨S147456x64, .f32⟩ : BufTy).Contents (Elt F))]

/-- The operations that compute the zero tokens the restore path starts from. -/
abbrev zero : List (HloOp τ sig (Elt F)) :=
  [nullary main_cst_35 (constant S_ .f32 0x00000000#32),
   unary main_cst_35 main_v230 (broadcastInDim S147456x64 ![] bcast_S_S147456x64 : (⟨S_, .f32⟩ : BufTy).Contents (Elt F) → (⟨S147456x64, .f32⟩ : BufTy).Contents (Elt F))]

/-- The operations that compute the dequantization head of the third level. -/
abbrev deq2 : List (HloOp τ sig (Elt F)) :=
  [unary main_arg7 main_v231 ((extractStridedSlice S1x64x64 ![2, 0, 0] · slices_S3x64x64_S1x64x64_2_0_0) : (⟨S3x64x64, .f32⟩ : BufTy).Contents (Elt F) → (⟨S1x64x64, .f32⟩ : BufTy).Contents (Elt F)),
   reshape main_v231 main_v232 (rfl : (.f32 : EltTy) = .f32) shapeCasts_S1x64x64_S64x64,
   unary main_v232 main_v233 ((transpose S64x64 [1, 0] · transposes_S64x64_S64x64_1_0) : (⟨S64x64, .f32⟩ : BufTy).Contents (Elt F) → (⟨S64x64, .f32⟩ : BufTy).Contents (Elt F)),
   binary main_v209 main_v233 main_v234 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg8 main_v235 ((extractStridedSlice S1x64 ![2, 0] · slices_S3x64_S1x64_2_0) : (⟨S3x64, .f32⟩ : BufTy).Contents (Elt F) → (⟨S1x64, .f32⟩ : BufTy).Contents (Elt F)),
   reshape main_v235 main_v236 (rfl : (.f32 : EltTy) = .f32) shapeCasts_S1x64_S64,
   unary main_v236 main_v237 (broadcastInDim S1x64 ![1] bcast_S64_S1x64_1 : (⟨S64, .f32⟩ : BufTy).Contents (Elt F) → (⟨S1x64, .f32⟩ : BufTy).Contents (Elt F)),
   unary main_v237 main_v238 (broadcastInDim S147456x64 ![0, 1] bcast_S1x64_S147456x64_0_1 : (⟨S1x64, .f32⟩ : BufTy).Contents (Elt F) → (⟨S147456x64, .f32⟩ : BufTy).Contents (Elt F)),
   binary main_v234 main_v238 main_v239 (addf : (⟨S147456x64, .f32⟩ : BufTy).Contents (Elt F) → (⟨S147456x64, .f32⟩ : BufTy).Contents (Elt F) → (⟨S147456x64, .f32⟩ : BufTy).Contents (Elt F))]

/-- The operations that compute the side head of the third level. -/
abbrev side2 : List (HloOp τ sig (Elt F)) :=
  [unary main_arg11 main_v240 ((extractStridedSlice S1x64x64 ![2, 0, 0] · slices_S3x64x64_S1x64x64_2_0_0) : (⟨S3x64x64, .f32⟩ : BufTy).Contents (Elt F) → (⟨S1x64x64, .f32⟩ : BufTy).Contents (Elt F)),
   reshape main_v240 main_v241 (rfl : (.f32 : EltTy) = .f32) shapeCasts_S1x64x64_S64x64,
   unary main_v241 main_v242 ((transpose S64x64 [1, 0] · transposes_S64x64_S64x64_1_0) : (⟨S64x64, .f32⟩ : BufTy).Contents (Elt F) → (⟨S64x64, .f32⟩ : BufTy).Contents (Elt F)),
   binary main_v230 main_v242 main_v243 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg12 main_v244 ((extractStridedSlice S1x64 ![2, 0] · slices_S3x64_S1x64_2_0) : (⟨S3x64, .f32⟩ : BufTy).Contents (Elt F) → (⟨S1x64, .f32⟩ : BufTy).Contents (Elt F)),
   reshape main_v244 main_v245 (rfl : (.f32 : EltTy) = .f32) shapeCasts_S1x64_S64,
   unary main_v245 main_v246 (broadcastInDim S1x64 ![1] bcast_S64_S1x64_1 : (⟨S64, .f32⟩ : BufTy).Contents (Elt F) → (⟨S1x64, .f32⟩ : BufTy).Contents (Elt F)),
   unary main_v246 main_v247 (broadcastInDim S147456x64 ![0, 1] bcast_S1x64_S147456x64_0_1 : (⟨S1x64, .f32⟩ : BufTy).Contents (Elt F) → (⟨S147456x64, .f32⟩ : BufTy).Contents (Elt F)),
   binary main_v243 main_v247 main_v248 (addf : (⟨S147456x64, .f32⟩ : BufTy).Contents (Elt F) → (⟨S147456x64, .f32⟩ : BufTy).Contents (Elt F) → (⟨S147456x64, .f32⟩ : BufTy).Contents (Elt F))]

/-- The operations that compute the restore head of the third level. -/
abbrev rest2 : List (HloOp τ sig (Elt F)) :=
  [binary main_v239 main_v248 main_v249 (addf : (⟨S147456x64, .f32⟩ : BufTy).Contents (Elt F) → (⟨S147456x64, .f32⟩ : BufTy).Contents (Elt F) → (⟨S147456x64, .f32⟩ : BufTy).Contents (Elt F)),
   unary main_arg9 main_v250 ((extractStridedSlice S1x64x64 ![2, 0, 0] · slices_S3x64x64_S1x64x64_2_0_0) : (⟨S3x64x64, .f32⟩ : BufTy).Contents (Elt F) → (⟨S1x64x64, .f32⟩ : BufTy).Contents (Elt F)),
   reshape main_v250 main_v251 (rfl : (.f32 : EltTy) = .f32) shapeCasts_S1x64x64_S64x64,
   unary main_v251 main_v252 ((transpose S64x64 [1, 0] · transposes_S64x64_S64x64_1_0) : (⟨S64x64, .f32⟩ : BufTy).Contents (Elt F) → (⟨S64x64, .f32⟩ : BufTy).Contents (Elt F)),
   binary main_v249 main_v252 main_v253 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg10 main_v254 ((extractStridedSlice S1x64 ![2, 0] · slices_S3x64_S1x64_2_0) : (⟨S3x64, .f32⟩ : BufTy).Contents (Elt F) → (⟨S1x64, .f32⟩ : BufTy).Contents (Elt F)),
   reshape main_v254 main_v255 (rfl : (.f32 : EltTy) = .f32) shapeCasts_S1x64_S64,
   unary main_v255 main_v256 (broadcastInDim S1x64 ![1] bcast_S64_S1x64_1 : (⟨S64, .f32⟩ : BufTy).Contents (Elt F) → (⟨S1x64, .f32⟩ : BufTy).Contents (Elt F)),
   unary main_v256 main_v257 (broadcastInDim S147456x64 ![0, 1] bcast_S1x64_S147456x64_0_1 : (⟨S1x64, .f32⟩ : BufTy).Contents (Elt F) → (⟨S147456x64, .f32⟩ : BufTy).Contents (Elt F)),
   binary main_v253 main_v257 main_v258 (addf : (⟨S147456x64, .f32⟩ : BufTy).Contents (Elt F) → (⟨S147456x64, .f32⟩ : BufTy).Contents (Elt F) → (⟨S147456x64, .f32⟩ : BufTy).Contents (Elt F))]

/-- The operations that compute the dequantization head of the second level. -/
abbrev deq1 : List (HloOp τ sig (Elt F)) :=
  [unary main_arg7 main_v259 ((extractStridedSlice S1x64x64 ![1, 0, 0] · slices_S3x64x64_S1x64x64_1_0_0) : (⟨S3x64x64, .f32⟩ : BufTy).Contents (Elt F) → (⟨S1x64x64, .f32⟩ : BufTy).Contents (Elt F)),
   reshape main_v259 main_v260 (rfl : (.f32 : EltTy) = .f32) shapeCasts_S1x64x64_S64x64,
   unary main_v260 main_v261 ((transpose S64x64 [1, 0] · transposes_S64x64_S64x64_1_0) : (⟨S64x64, .f32⟩ : BufTy).Contents (Elt F) → (⟨S64x64, .f32⟩ : BufTy).Contents (Elt F)),
   binary main_v133 main_v261 main_v262 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg8 main_v263 ((extractStridedSlice S1x64 ![1, 0] · slices_S3x64_S1x64_1_0) : (⟨S3x64, .f32⟩ : BufTy).Contents (Elt F) → (⟨S1x64, .f32⟩ : BufTy).Contents (Elt F)),
   reshape main_v263 main_v264 (rfl : (.f32 : EltTy) = .f32) shapeCasts_S1x64_S64,
   unary main_v264 main_v265 (broadcastInDim S1x64 ![1] bcast_S64_S1x64_1 : (⟨S64, .f32⟩ : BufTy).Contents (Elt F) → (⟨S1x64, .f32⟩ : BufTy).Contents (Elt F)),
   unary main_v265 main_v266 (broadcastInDim S147456x64 ![0, 1] bcast_S1x64_S147456x64_0_1 : (⟨S1x64, .f32⟩ : BufTy).Contents (Elt F) → (⟨S147456x64, .f32⟩ : BufTy).Contents (Elt F)),
   binary main_v262 main_v266 main_v267 (addf : (⟨S147456x64, .f32⟩ : BufTy).Contents (Elt F) → (⟨S147456x64, .f32⟩ : BufTy).Contents (Elt F) → (⟨S147456x64, .f32⟩ : BufTy).Contents (Elt F))]

/-- The operations that compute the side head of the second level. -/
abbrev side1 : List (HloOp τ sig (Elt F)) :=
  [unary main_arg11 main_v268 ((extractStridedSlice S1x64x64 ![1, 0, 0] · slices_S3x64x64_S1x64x64_1_0_0) : (⟨S3x64x64, .f32⟩ : BufTy).Contents (Elt F) → (⟨S1x64x64, .f32⟩ : BufTy).Contents (Elt F)),
   reshape main_v268 main_v269 (rfl : (.f32 : EltTy) = .f32) shapeCasts_S1x64x64_S64x64,
   unary main_v269 main_v270 ((transpose S64x64 [1, 0] · transposes_S64x64_S64x64_1_0) : (⟨S64x64, .f32⟩ : BufTy).Contents (Elt F) → (⟨S64x64, .f32⟩ : BufTy).Contents (Elt F)),
   binary main_v258 main_v270 main_v271 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg12 main_v272 ((extractStridedSlice S1x64 ![1, 0] · slices_S3x64_S1x64_1_0) : (⟨S3x64, .f32⟩ : BufTy).Contents (Elt F) → (⟨S1x64, .f32⟩ : BufTy).Contents (Elt F)),
   reshape main_v272 main_v273 (rfl : (.f32 : EltTy) = .f32) shapeCasts_S1x64_S64,
   unary main_v273 main_v274 (broadcastInDim S1x64 ![1] bcast_S64_S1x64_1 : (⟨S64, .f32⟩ : BufTy).Contents (Elt F) → (⟨S1x64, .f32⟩ : BufTy).Contents (Elt F)),
   unary main_v274 main_v275 (broadcastInDim S147456x64 ![0, 1] bcast_S1x64_S147456x64_0_1 : (⟨S1x64, .f32⟩ : BufTy).Contents (Elt F) → (⟨S147456x64, .f32⟩ : BufTy).Contents (Elt F)),
   binary main_v271 main_v275 main_v276 (addf : (⟨S147456x64, .f32⟩ : BufTy).Contents (Elt F) → (⟨S147456x64, .f32⟩ : BufTy).Contents (Elt F) → (⟨S147456x64, .f32⟩ : BufTy).Contents (Elt F))]

/-- The operations that compute the restore head of the second level. -/
abbrev rest1 : List (HloOp τ sig (Elt F)) :=
  [binary main_v267 main_v276 main_v277 (addf : (⟨S147456x64, .f32⟩ : BufTy).Contents (Elt F) → (⟨S147456x64, .f32⟩ : BufTy).Contents (Elt F) → (⟨S147456x64, .f32⟩ : BufTy).Contents (Elt F)),
   unary main_arg9 main_v278 ((extractStridedSlice S1x64x64 ![1, 0, 0] · slices_S3x64x64_S1x64x64_1_0_0) : (⟨S3x64x64, .f32⟩ : BufTy).Contents (Elt F) → (⟨S1x64x64, .f32⟩ : BufTy).Contents (Elt F)),
   reshape main_v278 main_v279 (rfl : (.f32 : EltTy) = .f32) shapeCasts_S1x64x64_S64x64,
   unary main_v279 main_v280 ((transpose S64x64 [1, 0] · transposes_S64x64_S64x64_1_0) : (⟨S64x64, .f32⟩ : BufTy).Contents (Elt F) → (⟨S64x64, .f32⟩ : BufTy).Contents (Elt F)),
   binary main_v277 main_v280 main_v281 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg10 main_v282 ((extractStridedSlice S1x64 ![1, 0] · slices_S3x64_S1x64_1_0) : (⟨S3x64, .f32⟩ : BufTy).Contents (Elt F) → (⟨S1x64, .f32⟩ : BufTy).Contents (Elt F)),
   reshape main_v282 main_v283 (rfl : (.f32 : EltTy) = .f32) shapeCasts_S1x64_S64,
   unary main_v283 main_v284 (broadcastInDim S1x64 ![1] bcast_S64_S1x64_1 : (⟨S64, .f32⟩ : BufTy).Contents (Elt F) → (⟨S1x64, .f32⟩ : BufTy).Contents (Elt F)),
   unary main_v284 main_v285 (broadcastInDim S147456x64 ![0, 1] bcast_S1x64_S147456x64_0_1 : (⟨S1x64, .f32⟩ : BufTy).Contents (Elt F) → (⟨S147456x64, .f32⟩ : BufTy).Contents (Elt F)),
   binary main_v281 main_v285 main_v286 (addf : (⟨S147456x64, .f32⟩ : BufTy).Contents (Elt F) → (⟨S147456x64, .f32⟩ : BufTy).Contents (Elt F) → (⟨S147456x64, .f32⟩ : BufTy).Contents (Elt F))]

/-- The operations that compute the dequantization head of the first level. -/
abbrev deq0 : List (HloOp τ sig (Elt F)) :=
  [unary main_arg7 main_v287 ((extractStridedSlice S1x64x64 ![0, 0, 0] · slices_S3x64x64_S1x64x64_0_0_0) : (⟨S3x64x64, .f32⟩ : BufTy).Contents (Elt F) → (⟨S1x64x64, .f32⟩ : BufTy).Contents (Elt F)),
   reshape main_v287 main_v288 (rfl : (.f32 : EltTy) = .f32) shapeCasts_S1x64x64_S64x64,
   unary main_v288 main_v289 ((transpose S64x64 [1, 0] · transposes_S64x64_S64x64_1_0) : (⟨S64x64, .f32⟩ : BufTy).Contents (Elt F) → (⟨S64x64, .f32⟩ : BufTy).Contents (Elt F)),
   binary main_v57 main_v289 main_v290 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg8 main_v291 ((extractStridedSlice S1x64 ![0, 0] · slices_S3x64_S1x64_0_0) : (⟨S3x64, .f32⟩ : BufTy).Contents (Elt F) → (⟨S1x64, .f32⟩ : BufTy).Contents (Elt F)),
   reshape main_v291 main_v292 (rfl : (.f32 : EltTy) = .f32) shapeCasts_S1x64_S64,
   unary main_v292 main_v293 (broadcastInDim S1x64 ![1] bcast_S64_S1x64_1 : (⟨S64, .f32⟩ : BufTy).Contents (Elt F) → (⟨S1x64, .f32⟩ : BufTy).Contents (Elt F)),
   unary main_v293 main_v294 (broadcastInDim S147456x64 ![0, 1] bcast_S1x64_S147456x64_0_1 : (⟨S1x64, .f32⟩ : BufTy).Contents (Elt F) → (⟨S147456x64, .f32⟩ : BufTy).Contents (Elt F)),
   binary main_v290 main_v294 main_v295 (addf : (⟨S147456x64, .f32⟩ : BufTy).Contents (Elt F) → (⟨S147456x64, .f32⟩ : BufTy).Contents (Elt F) → (⟨S147456x64, .f32⟩ : BufTy).Contents (Elt F))]

/-- The operations that compute the side head of the first level. -/
abbrev side0 : List (HloOp τ sig (Elt F)) :=
  [unary main_arg11 main_v296 ((extractStridedSlice S1x64x64 ![0, 0, 0] · slices_S3x64x64_S1x64x64_0_0_0) : (⟨S3x64x64, .f32⟩ : BufTy).Contents (Elt F) → (⟨S1x64x64, .f32⟩ : BufTy).Contents (Elt F)),
   reshape main_v296 main_v297 (rfl : (.f32 : EltTy) = .f32) shapeCasts_S1x64x64_S64x64,
   unary main_v297 main_v298 ((transpose S64x64 [1, 0] · transposes_S64x64_S64x64_1_0) : (⟨S64x64, .f32⟩ : BufTy).Contents (Elt F) → (⟨S64x64, .f32⟩ : BufTy).Contents (Elt F)),
   binary main_v286 main_v298 main_v299 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg12 main_v300 ((extractStridedSlice S1x64 ![0, 0] · slices_S3x64_S1x64_0_0) : (⟨S3x64, .f32⟩ : BufTy).Contents (Elt F) → (⟨S1x64, .f32⟩ : BufTy).Contents (Elt F)),
   reshape main_v300 main_v301 (rfl : (.f32 : EltTy) = .f32) shapeCasts_S1x64_S64,
   unary main_v301 main_v302 (broadcastInDim S1x64 ![1] bcast_S64_S1x64_1 : (⟨S64, .f32⟩ : BufTy).Contents (Elt F) → (⟨S1x64, .f32⟩ : BufTy).Contents (Elt F)),
   unary main_v302 main_v303 (broadcastInDim S147456x64 ![0, 1] bcast_S1x64_S147456x64_0_1 : (⟨S1x64, .f32⟩ : BufTy).Contents (Elt F) → (⟨S147456x64, .f32⟩ : BufTy).Contents (Elt F)),
   binary main_v299 main_v303 main_v304 (addf : (⟨S147456x64, .f32⟩ : BufTy).Contents (Elt F) → (⟨S147456x64, .f32⟩ : BufTy).Contents (Elt F) → (⟨S147456x64, .f32⟩ : BufTy).Contents (Elt F))]

/-- The operations that compute the restore head of the first level. -/
abbrev rest0 : List (HloOp τ sig (Elt F)) :=
  [binary main_v295 main_v304 main_v305 (addf : (⟨S147456x64, .f32⟩ : BufTy).Contents (Elt F) → (⟨S147456x64, .f32⟩ : BufTy).Contents (Elt F) → (⟨S147456x64, .f32⟩ : BufTy).Contents (Elt F)),
   unary main_arg9 main_v306 ((extractStridedSlice S1x64x64 ![0, 0, 0] · slices_S3x64x64_S1x64x64_0_0_0) : (⟨S3x64x64, .f32⟩ : BufTy).Contents (Elt F) → (⟨S1x64x64, .f32⟩ : BufTy).Contents (Elt F)),
   reshape main_v306 main_v307 (rfl : (.f32 : EltTy) = .f32) shapeCasts_S1x64x64_S64x64,
   unary main_v307 main_v308 ((transpose S64x64 [1, 0] · transposes_S64x64_S64x64_1_0) : (⟨S64x64, .f32⟩ : BufTy).Contents (Elt F) → (⟨S64x64, .f32⟩ : BufTy).Contents (Elt F)),
   binary main_v305 main_v308 main_v309 ((fun l r => Host.dotGeneral dot_S147456x64_S64x64_S147456x64_1_0_0_1_n_n none l r) : (⟨S147456x64, .f32⟩ : BufTy).Contents (Elt F) → (⟨S64x64, .f32⟩ : BufTy).Contents (Elt F) → (⟨S147456x64, .f32⟩ : BufTy).Contents (Elt F)),
   unary main_arg10 main_v310 ((extractStridedSlice S1x64 ![0, 0] · slices_S3x64_S1x64_0_0) : (⟨S3x64, .f32⟩ : BufTy).Contents (Elt F) → (⟨S1x64, .f32⟩ : BufTy).Contents (Elt F)),
   reshape main_v310 main_v311 (rfl : (.f32 : EltTy) = .f32) shapeCasts_S1x64_S64,
   unary main_v311 main_v312 (broadcastInDim S1x64 ![1] bcast_S64_S1x64_1 : (⟨S64, .f32⟩ : BufTy).Contents (Elt F) → (⟨S1x64, .f32⟩ : BufTy).Contents (Elt F)),
   unary main_v312 main_v313 (broadcastInDim S147456x64 ![0, 1] bcast_S1x64_S147456x64_0_1 : (⟨S1x64, .f32⟩ : BufTy).Contents (Elt F) → (⟨S147456x64, .f32⟩ : BufTy).Contents (Elt F)),
   binary main_v309 main_v313 main_v314 (addf : (⟨S147456x64, .f32⟩ : BufTy).Contents (Elt F) → (⟨S147456x64, .f32⟩ : BufTy).Contents (Elt F) → (⟨S147456x64, .f32⟩ : BufTy).Contents (Elt F))]

/-- The operations that compute the restored tokens as a feature map. -/
abbrev out : List (HloOp τ sig (Elt F)) :=
  [reshape main_v314 main_v315 (rfl : (.f32 : EltTy) = .f32) shapeCasts_S147456x64_S1x384x384x64]

/-- All the operations of the reference, in order. -/
def all : List (HloOp τ sig (Elt F)) :=
  tok ++ (enc0 ++ (head0 ++ (dist0 ++ (amin0 ++ (pick0 ++ (quant0 ++ (loss0 ++ (lat0 ++ (enc1 ++ (head1 ++ (dist1 ++ (amin1 ++ (pick1 ++ (quant1 ++ (loss1 ++ (lat1 ++ (enc2 ++ (head2 ++ (dist2 ++ (amin2 ++ (pick2 ++ (quant2 ++ (loss2 ++ (lat2 ++ (zero ++ (deq2 ++ (side2 ++ (rest2 ++ (deq1 ++ (side1 ++ (rest1 ++ (deq0 ++ (side0 ++ (rest0 ++ (out)))))))))))))))))))))))))))))))))))

end Cert.ReferenceIdeal.Ops

end
-- ==== Proof.Ref.Stages.lean ====
/- The steps of the reference's mathematics as functions of whole arrays, each written once for all three levels. -/
module

public import proofs.«01_k».proof.Proof.Ref.Ops

@[expose] public section

noncomputable section

namespace Cert.ReferenceIdeal.Stage

open Cert.ReferenceIdeal Cert.ReferenceIdeal.Gen Idealize.ShloMosaic Idealize.ShloMosaic.TcCoe Idealize.SL.Sem

variable {F : FTy → Type} [FloatOps F]

/-- A level's weight matrix is a slice of the stack of the three levels' matrices. -/
theorem sliceW : ∀ l : Fin 3, S3x64x64.Slices ![l.val, 0, 0] S1x64x64 := by decide

/-- A level's bias is a slice of the stack of the three levels' biases. -/
theorem sliceB : ∀ l : Fin 3, S3x64.Slices ![l.val, 0] S1x64 := by decide

/-- A level's codebooks are a slice of the stack of the three levels' codebooks. -/
theorem sliceC : ∀ l : Fin 3, S3x4x128x16.Slices ![l.val, 0, 0, 0] S1x4x128x16 := by decide

/-- The feature map with its channels last, one row per token. -/
def tok (x : Vec F S1x64x384x384 .f32) : Vec F S147456x64 .f32 :=
  shapeCast S147456x64 (transpose S1x384x384x64 [0, 2, 3, 1] x transposes_S1x64x384x384_S1x384x384x64_0_2_3_1)
    shapeCasts_S1x384x384x64_S147456x64

/-- One linear layer of level `l`: every token times the transposed weights, plus the bias. -/
def lin (l : Fin 3) (x : Vec F S147456x64 .f32) (W : Vec F S3x64x64 .f32) (b : Vec F S3x64 .f32) : Vec F S147456x64 .f32 :=
  addf
    (Host.dotGeneral (φ₁ := .f32) (φ₂ := .f32) dot_S147456x64_S64x64_S147456x64_1_0_0_1_n_n none x
      (transpose S64x64 [1, 0] (shapeCast S64x64 (extractStridedSlice S1x64x64 ![l.val, 0, 0] W (sliceW l)) shapeCasts_S1x64x64_S64x64)
        transposes_S64x64_S64x64_1_0))
    (broadcastInDim S147456x64 ![0, 1] bcast_S1x64_S147456x64_0_1
      (broadcastInDim S1x64 ![1] bcast_S64_S1x64_1
        (shapeCast S64 (extractStridedSlice S1x64 ![l.val, 0] b (sliceB l)) shapeCasts_S1x64_S64)))

/-- The codebooks of level `l`. -/
def book (l : Fin 3) (C : Vec F S3x4x128x16 .f32) : Vec F S4x128x16 .f32 :=
  shapeCast S4x128x16 (extractStridedSlice S1x4x128x16 ![l.val, 0, 0, 0] C (sliceC l)) shapeCasts_S1x4x128x16_S4x128x16

/-- Every token's four segments. -/
def segs (q : Vec F S147456x64 .f32) : Vec F S147456x4x16 .f32 :=
  shapeCast S147456x4x16 q shapeCasts_S147456x64_S147456x4x16

/-- The squared distance of every segment of every token to every codeword of that segment, multiplied out. -/
def dist (q : Vec F S147456x64 .f32) (B : Vec F S4x128x16 .f32) : Vec F S147456x4x128 .f32 :=
  addf
    (subf
      (broadcastInDim S147456x4x128 ![0, 1, 2] bcast_S147456x4x1_S147456x4x128_0_1_2
        (broadcastInDim S147456x4x1 ![0, 1] bcast_S147456x4_S147456x4x1_0_1
          (Host.reduceAdd (φ := .f32) (mulf (segs q) (segs q)) (constant S_ .f32 0x00000000#32) reducesTo_S147456x4x16_S147456x4_d2 h_S_)))
      (mulf (broadcastInDim S147456x4x128 ![] bcast_S_S147456x4x128 (constant S_ .f32 0x40000000#32))
        (transpose S147456x4x128 [2, 0, 1]
          (Host.dotGeneral (φ₁ := .f32) (φ₂ := .f32) dot_S4x128x16_S147456x4x16_S4x128x147456_2_2_1_0_0_1 none B (segs q))
          transposes_S4x128x147456_S147456x4x128_2_0_1)))
    (broadcastInDim S147456x4x128 ![0, 1, 2] bcast_S1x4x128_S147456x4x128_0_1_2
      (broadcastInDim S1x4x128 ![1, 2] bcast_S4x128_S1x4x128_1_2
        (Host.reduceAdd (φ := .f32) (mulf B B) (constant S_ .f32 0x00000000#32) reducesTo_S4x128x16_S4x128_d2 h_S_)))

/-- The number of the nearest codeword of every segment of every token. -/
def amin (d : Vec F S147456x4x128 .f32) : Vec F S147456x4 .i32 := fun j =>
  (Host.argReduce reducer_argmin_f32_i32 d (iotaInDim S147456x4x128 32 2) (constant S_ .f32 0x7F800000#32) (constantI S_ 32 0#32)
    reducesTo_S147456x4x128_S147456x4_d2 h_S_ j).2

/-- The segment numbers, one per segment, counted from the end where negative (none is). -/
def segNum : Vec F S1x4 .i32 :=
  select
    (cmpi .slt (broadcastInDim S1x4 ![1] bcast_S4_S1x4_1 (iotaInDim S4 32 0)) (broadcastInDim S1x4 ![] bcast_S_S1x4 (constantI S_ 32 0#32)))
    (addi (broadcastInDim S1x4 ![1] bcast_S4_S1x4_1 (iotaInDim S4 32 0)) (broadcastInDim S1x4 ![] bcast_S_S1x4 (constantI S_ 32 4#32)))
    (broadcastInDim S1x4 ![1] bcast_S4_S1x4_1 (iotaInDim S4 32 0))

/-- The codeword numbers, counted from the end where negative (none is). -/
def wordNum (i : Vec F S147456x4 .i32) : Vec F S147456x4 .i32 :=
  select
    (cmpi .slt i (broadcastInDim S147456x4 ![] bcast_S_S147456x4 (constantI S_ 32 0#32)))
    (addi i (broadcastInDim S147456x4 ![] bcast_S_S147456x4 (constantI S_ 32 128#32)))
    i

/-- The chosen codewords of every token, its four segments side by side. -/
def pick (B : Vec F S4x128x16 .f32) (i : Vec F S147456x4 .i32) : Vec F S147456x64 .f32 :=
  shapeCast S147456x64
    (Host.gather gather_S4x128x16_S147456x4x2_S147456x4x16_2_01_n_n_01_2_1116 B
      (Ops.pairIdx (F := F)
        (broadcastInDim S147456x4x1 ![0, 1] bcast_S147456x4_S147456x4x1_0_1
          (broadcastInDim S147456x4 ![0, 1] bcast_S1x4_S147456x4_0_1 (segNum (F := F))))
        (broadcastInDim S147456x4x1 ![0, 1] bcast_S147456x4_S147456x4x1_0_1 (wordNum (F := F) i))))
    shapeCasts_S147456x4x16_S147456x64

/-- The quantized tokens: the token plus the step to its codewords. -/
def quant (q h : Vec F S147456x64 .f32) : Vec F S147456x64 .f32 := addf q (subf h q)

/-- The mean over all entries of the squared difference of tokens and codewords. -/
def mse (q h : Vec F S147456x64 .f32) : Vec F S_ .f32 :=
  Host.divf
    (Host.reduceAdd (φ := .f32) (mulf (subf q h) (subf q h)) (constant S_ .f32 0x00000000#32) reducesTo_S147456x64_S_d0_1 h_S_)
    (constant S_ .f32 0x4B100000#32)

/-- The loss so far plus a level's mean and a quarter of it. -/
def loss (acc : Vec F S_ .f32) (q h : Vec F S147456x64 .f32) : Vec F S_ .f32 :=
  addf (addf acc (mse q h)) (mulf (constant S_ .f32 0x3E800000#32) (mse q h))

/-- The tokens the restore path starts from. -/
def zero : Vec F S147456x64 .f32 := broadcastInDim S147456x64 ![] bcast_S_S147456x64 (constant S_ .f32 0x00000000#32)

/-- The tokens as a feature map. -/
def out (y : Vec F S147456x64 .f32) : Vec F S1x384x384x64 .f32 :=
  shapeCast S1x384x384x64 y shapeCasts_S147456x64_S1x384x384x64

end Cert.ReferenceIdeal.Stage

end
-- ==== Proof.Ref.Read.lean ====
/- The reference's steps read at one token and one channel, over the extended reals. -/
module

public import proofs.«01_k».proof.Proof.Ref.Stages
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.TcCoe Idealize.SL.Sem

/-- A token's channel is the feature map's entry at the token's place. -/
theorem tok_apply (x : Vec Ideal S1x64x384x384 .f32) (n : Fin 147456) (c : Fin 64) :
    Stage.tok x (ix2 n c) = x (ix4 0 c ⟨n.val / 384, by omega⟩ ⟨n.val % 384, by omega⟩) := by
  pointwise [Stage.tok]

/-- A linear layer at a token and an output channel. -/
theorem lin_apply (l : Fin 3) (x : Vec Ideal S147456x64 .f32) (W : Vec Ideal S3x64x64 .f32) (b : Vec Ideal S3x64 .f32)
    (n : Fin 147456) (c : Fin 64) :
    Stage.lin l x W b (ix2 n c) = (∑ k : Fin 64, x (ix2 n k) * W (ix3 l c k)) + b (ix2 l c) := by
  pointwise [Stage.lin]

/-- A level's codebooks at a segment, a codeword and a coordinate. -/
theorem book_apply (l : Fin 3) (C : Vec Ideal S3x4x128x16 .f32) (s : Fin 4) (k : Fin 128) (c : Fin 16) :
    Stage.book l C (ix3 s k c) = C (ix4 l s k c) := by
  pointwise [Stage.book]

/-- The distance of a token's segment to a codeword. -/
theorem dist_apply (q : Vec Ideal S147456x64 .f32) (B : Vec Ideal S4x128x16 .f32) (n : Fin 147456) (s : Fin 4) (k : Fin 128) :
    Stage.dist q B (ix3 n s k) =
      (∑ x : Fin 16, q (ix2 n ⟨s.val * 16 + x.val, by omega⟩) * q (ix2 n ⟨s.val * 16 + x.val, by omega⟩))
        - Ideal.ofBits .f32 0x40000000#32 * (∑ x : Fin 16, B (ix3 s k x) * q (ix2 n ⟨s.val * 16 + x.val, by omega⟩))
        + ∑ x : Fin 16, B (ix3 s k x) * B (ix3 s k x) := by
  pointwise [Stage.dist, Stage.segs]

/-- A quantized token's channel. -/
theorem quant_apply (q h : Vec Ideal S147456x64 .f32) (n : Fin 147456) (c : Fin 64) :
    Stage.quant q h (ix2 n c) = q (ix2 n c) + (h (ix2 n c) - q (ix2 n c)) := by
  pointwise [Stage.quant]

/-- The mean squared difference of tokens and codewords. -/
theorem mse_apply (q h : Vec Ideal S147456x64 .f32) (j : S_.Idx) :
    Stage.mse q h j =
      Ideal.div (∑ n : Fin 147456, ∑ c : Fin 64, (q (ix2 n c) - h (ix2 n c)) * (q (ix2 n c) - h (ix2 n c)))
        (Ideal.ofBits .f32 0x4B100000#32) := by
  pointwise [Stage.mse]

/-- The loss after a level. -/
theorem loss_apply (a : Vec Ideal S_ .f32) (q h : Vec Ideal S147456x64 .f32) (j : S_.Idx) :
    Stage.loss a q h j = a j + Stage.mse q h j + Ideal.ofBits .f32 0x3E800000#32 * Stage.mse q h j := by
  pointwise [Stage.loss]

/-- The restore path starts from zero. -/
theorem zero_apply (n : Fin 147456) (c : Fin 64) : Stage.zero (F := Ideal) (ix2 n c) = 0 := by
  pointwise [Stage.zero]

/-- The feature map's entry at a place is its token's channel. -/
theorem out_apply (y : Vec Ideal S147456x64 .f32) (a : Fin 1) (h w : Fin 384) (c : Fin 64) :
    Stage.out y (ix4 a h w c) = y (ix2 ⟨h.val * 384 + w.val, by omega⟩ c) := by
  pointwise [Stage.out]

end Cert.ReferenceIdeal.Read

end
-- ==== Proof.Ref.Nearest.lean ====
/- The number the reference finds is that of the first of the nearest codewords. -/
module

public import proofs.«01_k».proof.Proof.Ref.Stages
public import proofs.«01_k».proof.Proof.Nearest

@[expose] public section

set_option maxRecDepth 16384

noncomputable section

namespace Cert.ReferenceIdeal.Read

open Cert.ReferenceIdeal Cert.ReferenceIdeal.Gen Idealize.ShloMosaic Idealize.ShloMosaic.TcCoe Idealize.SL.Sem Cert.Nearest

/-- The reducer keeps the pair of smaller value, and of equal values the one of smaller number. -/
theorem reducer_eq (a b : EReal × BitVec 32) :
    reducer_argmin_f32_i32 (F := Ideal) a b = if a.1 < b.1 ∨ (a.1 = b.1 ∧ a.2.toInt < b.2.toInt) then a else b := by
  obtain ⟨x, i⟩ := a
  obtain ⟨y, j⟩ := b
  have hs : (i.slt j = true) ↔ i.toInt < j.toInt := by simp [BitVec.slt]
  unfold reducer_argmin_f32_i32
  simp only [Ideal.cmpf_def, Ideal.cmp, IntOp.cmpi, IntOp.ori, IntOp.andi]
  by_cases h1 : x < y
  · simp [h1, h1.ne, Scalar.select]
  · by_cases h2 : x = y
    · subst h2
      by_cases h3 : i.toInt < j.toInt
      · simp [h3, hs.mpr h3, Scalar.select]
      · have : i.slt j = false := by simpa [h3] using hs
        simp [h3, this, Scalar.select]
    · simp [h1, h2, Scalar.select]

/-- Folding the reducer over a list of pairs leaves one of them (or the start), of least value, and of least number
    among those of that value. -/
theorem fold_reducer (L : List (EReal × BitVec 32)) (a : EReal × BitVec 32) :
    let r := L.foldl (reducer_argmin_f32_i32 (F := Ideal)) a
    (r = a ∨ r ∈ L) ∧ (r.1 ≤ a.1) ∧ (a.1 = r.1 → r.2.toInt ≤ a.2.toInt) ∧
      (∀ p ∈ L, r.1 ≤ p.1) ∧ ∀ p ∈ L, p.1 = r.1 → r.2.toInt ≤ p.2.toInt := by
  induction L generalizing a with
  | nil => simp
  | cons b L ih =>
    obtain ⟨h1, h2, h3, h4, h5⟩ := ih (reducer_argmin_f32_i32 (F := Ideal) a b)
    simp only [List.foldl_cons]
    generalize hr : List.foldl (reducer_argmin_f32_i32 (F := Ideal)) (reducer_argmin_f32_i32 (F := Ideal) a b) L = r at *
    rw [reducer_eq] at h1 h2 h3
    split at h1
    · rename_i hc
      rw [if_pos hc] at h2 h3
      refine ⟨h1.imp id (List.mem_cons_of_mem _), h2, h3, ?_, ?_⟩
      · intro p hp
        rcases List.mem_cons.mp hp with rfl | hp
        · exact h2.trans (hc.elim le_of_lt fun h => h.1.le)
        · exact h4 p hp
      · intro p hp e
        rcases List.mem_cons.mp hp with rfl | hp
        · rcases hc with hc | hc
          · exact absurd (e ▸ h2) (not_le.mpr hc)
          · exact (h3 (hc.1.trans e)).trans hc.2.le
        · exact h5 p hp e
    · rename_i hc
      rw [if_neg hc] at h2 h3
      have hba : b.1 ≤ a.1 := not_lt.mp fun h => hc (Or.inl h)
      refine ⟨Or.inr (h1.elim (fun h => h ▸ List.mem_cons_self) (List.mem_cons_of_mem _)), h2.trans hba, ?_, ?_, ?_⟩
      · intro e
        have hab : a.1 = b.1 := le_antisymm (e ▸ h2) hba
        exact (h3 (hab.symm.trans e)).trans (not_lt.mp fun h => hc (Or.inr ⟨hab, h⟩))
      · intro p hp
        rcases List.mem_cons.mp hp with rfl | hp
        · exact h2
        · exact h4 p hp
      · intro p hp e
        rcases List.mem_cons.mp hp with rfl | hp
        · exact h3 e
        · exact h5 p hp e

/-- The pairs the reference looks through for a segment of a token: every distance with its number. -/
theorem mem_fiber (d : Vec Ideal S147456x4x128 .f32) (n : Fin 147456) (s : Fin 4) (p : EReal × BitVec 32) :
    p ∈ Host.argReduceFiber d (iotaInDim S147456x4x128 32 2) reducesTo_S147456x4x128_S147456x4_d2 (ix2 n s)
      ↔ ∃ k : Fin 128, p = (d (ix3 n s k), BitVec.ofNat 32 k.val) := by
  unfold Host.argReduceFiber
  simp only [List.mem_map, List.mem_filter, List.mem_finRange, true_and, decide_eq_true_eq]
  constructor
  · rintro ⟨i, hi, rfl⟩
    generalize S147456x4x128.rowMajor.symm i = t at hi ⊢
    have e0 : (n : ℕ) = (t 0).val := by
      have := Shape.ReducesTo.drop_apply_val_of_eq reducesTo_S147456x4x128_S147456x4_d2 t 0 0
      rw [hi] at this; exact this
    have e1 : (s : ℕ) = (t 1).val := by
      have := Shape.ReducesTo.drop_apply_val_of_eq reducesTo_S147456x4x128_S147456x4_d2 t 1 1
      rw [hi] at this; exact this
    refine ⟨t 2, ?_⟩
    have et : t = ix3 n s (t 2) := by
      rw [eq_ix3 t]
      congr 1
      · exact Fin.ext e0.symm
      · exact Fin.ext e1.symm
    rw [et]
    rfl
  · rintro ⟨k, rfl⟩
    refine ⟨S147456x4x128.rowMajor (ix3 n s k), ?_, ?_⟩
    · rw [Equiv.symm_apply_apply]
      funext b
      apply Fin.ext
      match b with
      | 0 => exact Shape.ReducesTo.drop_apply_val_of_eq reducesTo_S147456x4x128_S147456x4_d2 (ix3 n s k) 0 0
      | 1 => exact Shape.ReducesTo.drop_apply_val_of_eq reducesTo_S147456x4x128_S147456x4_d2 (ix3 n s k) 1 1
    · rw [Equiv.symm_apply_apply]
      rfl

/-- Folding the reducer from infinity over all the pairs of a value and its number leaves the first least's number. -/
theorem fold_nearest (L : List (EReal × BitVec 32)) (g : Fin 128 → EReal)
    (hL : ∀ p, p ∈ L ↔ ∃ k : Fin 128, p = (g k, BitVec.ofNat 32 k.val)) (k : Fin 128) (hk : Nearest g k) :
    (L.foldl (reducer_argmin_f32_i32 (F := Ideal)) (⊤, 0#32)).2 = BitVec.ofNat 32 k.val := by
  have hN : ∀ j : Fin 128, (BitVec.ofNat 32 j.val).toInt = j.val := by decide
  obtain ⟨h1, h2, h3, h4, h5⟩ := fold_reducer L (⊤, 0#32)
  generalize List.foldl (reducer_argmin_f32_i32 (F := Ideal)) (⊤, 0#32) L = r at *
  have hmem := fun j => (hL (g j, BitVec.ofNat 32 j.val)).mpr ⟨j, rfl⟩
  have hin : ∃ j : Fin 128, r = (g j, BitVec.ofNat 32 j.val) := by
    rcases h1 with h | h
    · refine ⟨0, ?_⟩
      have := h4 _ (hmem 0)
      rw [h] at this ⊢
      have e : g 0 = ⊤ := top_le_iff.mp this
      rw [e]
      rfl
    · exact (hL r).mp h
  obtain ⟨j, hj⟩ := hin
  have : j = k := by
    refine Nearest.unique ⟨fun i => ?_, fun i hi => ?_⟩ hk
    · have := h4 _ (hmem i)
      rwa [hj] at this
    · have := h5 _ (hmem i) (by rw [hj]; exact hi)
      rw [hj] at this
      simp only [hN] at this
      exact Fin.le_def.mpr (by exact_mod_cast this)
  rw [← this, hj]

/-- The same, with the start as the reference writes it. -/
theorem fold_nearest' (L : List (EReal × BitVec 32)) (g : Fin 128 → EReal)
    (hL : ∀ p, p ∈ L ↔ ∃ k : Fin 128, p = (g k, BitVec.ofNat 32 k.val)) (k : Fin 128) (hk : Nearest g k) (u : S_.Idx) :
    (L.foldl (reducer_argmin_f32_i32 (F := Ideal)) ((constant (F := Ideal) S_ .f32 0x7F800000#32) u, (constantI S_ 32 0#32) u)).2
      = BitVec.ofNat 32 k.val := by
  have e : ((constant (F := Ideal) S_ .f32 0x7F800000#32) u : EReal) = ⊤ := by
    show Ideal.ofBits .f32 0x7F800000#32 = ⊤
    simp [Ideal.ofBits, Ideal.ieee]
  rw [e]
  exact fold_nearest L g hL k hk

/-- The reference's numbers, as its arg-min writes them. -/
theorem amin_def (d : Vec Ideal S147456x4x128 .f32) :
    Stage.amin d = fun j => (Host.argReduce (reducer_argmin_f32_i32 (F := Ideal)) d (iotaInDim S147456x4x128 32 2)
      (constant (F := Ideal) S_ .f32 0x7F800000#32) (constantI S_ 32 0#32) reducesTo_S147456x4x128_S147456x4_d2 h_S_ j).2 := rfl

/-- Over the extended reals, where nothing differs from itself, an arg-min is a fold over the pairs it looks through. -/
theorem argReduce_fold {s t u : Shape} {axes : List (Fin s.rank)} {β : Type}
    (f : Ideal .f32 × β → Ideal .f32 × β → Ideal .f32 × β) (x : FVec Ideal s .f32) (y : s.Idx → β) (ix : u.Idx → Ideal .f32)
    (iy : u.Idx → β) (h : s.ReducesTo axes t) (hu : 0 < u.numel) (j : t.Idx) :
    (Host.argReduce f x y ix iy h hu j).2
      = ((Host.argReduceFiber x y h j).foldl f (ix (Shape.Idx.first hu), iy (Shape.Idx.first hu))).2 := by
  rw [Ideal.argReduce_eq_reduce2, Host.reduce2_eq_foldl_fiber]

/-- The reference's number of a segment of a token is that of the first nearest codeword. -/
theorem amin_apply (d : Vec Ideal S147456x4x128 .f32) (n : Fin 147456) (s : Fin 4) (k : Fin 128)
    (hk : Nearest (fun k => d (ix3 n s k)) k) :
    Stage.amin d (ix2 n s) = BitVec.ofNat 32 k.val :=
  (congrFun (amin_def d) (ix2 n s)).trans ((argReduce_fold _ _ _ _ _ _ _ _).trans
    (fold_nearest' _ _ (mem_fiber d n s) k hk _))

end Cert.ReferenceIdeal.Read

end
-- ==== Proof.Ref.Pick.lean ====
/- The codeword the reference takes from the codebooks is the one its number names. -/
module

public import proofs.«01_k».proof.Proof.Ref.Stages
public import Idealize.ShloMosaic.Lib.Pointwise

@[expose] public section

set_option maxRecDepth 16384

noncomputable section

namespace Cert.ReferenceIdeal.Read

open Cert.ReferenceIdeal Cert.ReferenceIdeal.Gen Idealize.ShloMosaic Idealize.ShloMosaic.TcCoe Idealize.SL.Sem

/-- The gather reads the codebooks at the segment and the codeword its two numbers name. -/
theorem gather_apply (B : Vec Ideal S4x128x16 .f32) (I : Vec Ideal S147456x4x2 .i32) (n : Fin 147456) (s : Fin 4) (c : Fin 16)
    (a : Fin 4) (k : Fin 128) (ha : (I (ix3 n s 0)).toInt = a.val) (hk : (I (ix3 n s 1)).toInt = k.val) :
    Host.gather gather_S4x128x16_S147456x4x2_S147456x4x16_2_01_n_n_01_2_1116 B I (ix3 n s c) = B (ix3 a k c) := by
  unfold Host.gather
  congr 1
  have e0 : gather_S4x128x16_S147456x4x2_S147456x4x16_2_01_n_n_01_2_1116.siIdx (ix3 n s c) ⟨0, by decide⟩ = ix3 n s 0 := by
    funext b; match b with | 0 => rfl | 1 => rfl | 2 => rfl
  have e1 : gather_S4x128x16_S147456x4x2_S147456x4x16_2_01_n_n_01_2_1116.siIdx (ix3 n s c) ⟨1, by decide⟩ = ix3 n s 1 := by
    funext b; match b with | 0 => rfl | 1 => rfl | 2 => rfl
  funext b
  apply Fin.ext
  match b with
  | 0 =>
    change min (I (GatherDims.siIdx _ (ix3 n s c) ⟨0, _⟩)).toInt.toNat 3 + 0 + 0 = a.val
    rw [e0, ha]
    have := a.isLt
    omega
  | 1 =>
    change min (I (GatherDims.siIdx _ (ix3 n s c) ⟨1, _⟩)).toInt.toNat 127 + 0 + 0 = k.val
    rw [e1, hk]
    have := k.isLt
    omega
  | 2 => exact Nat.zero_add _

/-- The pairs hold the segment number first and the codeword number second. -/
theorem pair_apply (a b : Vec Ideal S147456x4x1 .i32) (n : Fin 147456) (s : Fin 4) :
    Ops.pairIdx (F := Ideal) a b (ix3 n s 0) = a (ix3 n s 0) ∧ Ops.pairIdx (F := Ideal) a b (ix3 n s 1) = b (ix3 n s 0) := by
  constructor <;> pointwise [Ops.pairIdx]

/-- A channel of a token's chosen codewords is that channel of the codeword its segment's number names. -/
theorem pick_apply (B : Vec Ideal S4x128x16 .f32) (i : Vec Ideal S147456x4 .i32) (n : Fin 147456) (c : Fin 64)
    (k : Fin 128) (hk : i (ix2 n ⟨c.val / 16, by omega⟩) = BitVec.ofNat 32 k.val) :
    Stage.pick B i (ix2 n c) = B (ix3 ⟨c.val / 16, by omega⟩ k ⟨c.val % 16, by omega⟩) := by
  pointwise [Stage.pick]
  refine gather_apply _ _ _ _ _ _ _ ?_ ?_
  · rw [(pair_apply _ _ _ _).1]
    pointwise [Stage.segNum]
    have h : ∀ a : Fin 4, BitVec.toInt (Scalar.select (IntOp.cmpi CmpIPredicate.slt (BitVec.ofNat 32 a.val) 0#32)
        (IntOp.addi (BitVec.ofNat 32 a.val) 4#32) (BitVec.ofNat 32 a.val)) = a.val := by decide
    exact h ⟨c.val / 16, by omega⟩
  · rw [(pair_apply _ _ _ _).2]
    pointwise [Stage.wordNum]
    have h : ∀ a : Fin 128, BitVec.toInt (Scalar.select (IntOp.cmpi CmpIPredicate.slt (BitVec.ofNat 32 a.val) 0#32)
        (IntOp.addi (BitVec.ofNat 32 a.val) 128#32) (BitVec.ofNat 32 a.val)) = a.val := by decide
    rw [hk]
    exact h k

end Cert.ReferenceIdeal.Read

end
-- ==== Proof.Eq.Level.lean ====
/- One level of the quantizer at one token: the kernel and the reference agree. -/
module

public import proofs.«01_k».proof.Proof.Eq.Real
public import proofs.«01_k».proof.Proof.Ker.Code
public import proofs.«01_k».proof.Proof.Ref.Read
public import proofs.«01_k».proof.Proof.Ref.Nearest
public import proofs.«01_k».proof.Proof.Ref.Pick

@[expose] public section

set_option maxRecDepth 16384

noncomputable section

namespace Cert.Equal

open Cert.KernelIdeal Idealize.ShloMosaic Cert.Nearest Cert.ReferenceIdeal.Read
open Cert.ReferenceIdeal (Stage.lin Stage.dist Stage.book Stage.pick Stage.amin Stage.quant)

/-- Column `j` of a block is token `n`. -/
def SameAt (j : Fin 4096) (n : Fin 147456) (x : FVec Ideal S64x4096 .f32) (y : Vec Ideal S147456x64 .f32) : Prop :=
  ∀ a : Fin 64, x (ix2 a j) = y (ix2 n a)

/-- Token `n` is of real numbers. -/
def RealAt (n : Fin 147456) (y : Vec Ideal S147456x64 .f32) : Prop := ∀ a : Fin 64, IsReal (y (ix2 n a))

variable {j : Fin 4096} {n : Fin 147456}

/-- A linear layer keeps the two the same. -/
theorem lin_same (i : Fin 6) (l : Fin 3) (W : Vec Ideal S3x64x64 .f32) (B : Vec Ideal S6x3x64x1 .f32) (b : Vec Ideal S3x64 .f32)
    (hb : ∀ a, B (ix4 i l a 0) = b (ix2 l a)) {x y} (h : SameAt j n x y) : SameAt j n (Body.lin i l W B x) (Stage.lin l y W b) := by
  intro a
  rw [Body.lin_apply, lin_apply, hb]
  refine congrArg (· + _) (Finset.sum_congr rfl fun k _ => ?_)
  rw [h k, mul_comm]

/-- A linear layer of real numbers takes a token of real numbers to one. -/
theorem lin_real (l : Fin 3) (W : Vec Ideal S3x64x64 .f32) (b : Vec Ideal S3x64 .f32) (hW : ∀ i, IsReal (W i)) (hb : ∀ i, IsReal (b i))
    {y} (h : RealAt n y) : RealAt n (Stage.lin l y W b) := by
  intro a
  rw [lin_apply]
  exact (IsReal.sum fun k => (h k).mul (hW _)).add (hb _)

/-- A channel is a coordinate of a segment. -/
theorem channel (a : Fin 64) : ∃ (s : Fin 4) (b : Fin 16), a = ⟨16 * s.val + b.val, by omega⟩ :=
  ⟨⟨a.val / 16, by omega⟩, ⟨a.val % 16, by omega⟩, Fin.ext (by show a.val = 16 * (a.val / 16) + a.val % 16; omega)⟩

/-- The codeword of a segment: the kernel and the reference pick the same. -/
theorem hard_at (l : Fin 3) (C : Vec Ideal S3x4x128x16 .f32) (N : Vec Ideal S3x4x128 .f32) (hC : ∀ i, IsReal (C i))
    (hN : ∀ l s k, N (ix3 l s k) = ∑ b : Fin 16, C (ix4 l s k b) * C (ix4 l s k b)) {x y} (h : SameAt j n x y) (hy : RealAt n y)
    (s : Fin 4) : ∃ k : Fin 128, ∀ b : Fin 16,
      Body.fetch l (Body.tabG C) (Body.nearest l (Body.tabQ N) (Body.cross l (Body.tabD C) x)) (ix2 ⟨16 * s.val + b.val, by omega⟩ j)
          = C (ix4 l s k b) ∧
      Stage.pick (Stage.book l C) (Stage.amin (Stage.dist y (Stage.book l C))) (ix2 n ⟨16 * s.val + b.val, by omega⟩)
          = C (ix4 l s k b) := by
  obtain ⟨k, hk⟩ := Nearest.exists (n := 127)
    (fun k : Fin 128 => Body.score l s (Body.tabQ N) (Body.cross l (Body.tabD C) x) (ix2 k j))
  have hq : ∀ b : Fin 16, IsReal (y (ix2 n ⟨16 * s.val + b.val, by omega⟩)) := fun b => hy _
  have hs : ∀ b : Fin 16, (⟨s.val * 16 + b.val, by omega⟩ : Fin 64) = ⟨16 * s.val + b.val, by omega⟩ := fun b => Fin.ext (by
    show s.val * 16 + b.val = 16 * s.val + b.val; omega)
  obtain ⟨c, hc⟩ : IsReal (∑ b : Fin 16, y (ix2 n ⟨16 * s.val + b.val, by omega⟩) * y (ix2 n ⟨16 * s.val + b.val, by omega⟩)) :=
    IsReal.sum fun b => (hq b).mul (hq b)
  have hd : Nearest (fun k : Fin 128 => Stage.dist y (Stage.book l C) (ix3 n s k)) k := by
    refine Nearest.of_add c (fun k => ?_) hk
    rw [dist_apply, ← hc, Body.score_at, hN]
    simp only [hs, book_apply, h _]
    exact dist_eq_score (fun b : Fin 16 => y (ix2 n ⟨16 * s.val + b.val, by omega⟩)) (fun b => C (ix4 l s k b)) hq fun b => hC _
  refine ⟨k, fun b => ⟨Body.fetch_nearest l C _ _ s b j k hk, ?_⟩⟩
  have hi := amin_apply (Stage.dist y (Stage.book l C)) n s k hd
  have e1 : (⟨(16 * s.val + b.val) / 16, by omega⟩ : Fin 4) = s := Fin.ext (by show (16 * s.val + b.val) / 16 = s.val; omega)
  have e2 : (⟨(16 * s.val + b.val) % 16, by omega⟩ : Fin 16) = b := Fin.ext (by show (16 * s.val + b.val) % 16 = b.val; omega)
  refine (pick_apply (Stage.book l C) _ n ⟨16 * s.val + b.val, by omega⟩ k (by rw [← hi]; exact congrArg _ (congrArg (ix2 n) e1))).trans ?_
  rw [book_apply]
  exact congrArg₂ (fun s b => C (ix4 l s k b)) e1 e2

/-- The codewords are the same. -/
theorem hard_same (l : Fin 3) (C : Vec Ideal S3x4x128x16 .f32) (N : Vec Ideal S3x4x128 .f32) (hC : ∀ i, IsReal (C i))
    (hN : ∀ l s k, N (ix3 l s k) = ∑ b : Fin 16, C (ix4 l s k b) * C (ix4 l s k b)) {x y} (h : SameAt j n x y) (hy : RealAt n y) :
    SameAt j n (Body.fetch l (Body.tabG C) (Body.nearest l (Body.tabQ N) (Body.cross l (Body.tabD C) x)))
      (Stage.pick (Stage.book l C) (Stage.amin (Stage.dist y (Stage.book l C)))) := by
  intro a
  obtain ⟨s, b, rfl⟩ := channel a
  obtain ⟨k, hk⟩ := hard_at l C N hC hN h hy s
  rw [(hk b).1, (hk b).2]

/-- The codewords are of real numbers. -/
theorem hard_real (l : Fin 3) (C : Vec Ideal S3x4x128x16 .f32) (N : Vec Ideal S3x4x128 .f32) (hC : ∀ i, IsReal (C i))
    (hN : ∀ l s k, N (ix3 l s k) = ∑ b : Fin 16, C (ix4 l s k b) * C (ix4 l s k b)) {x y} (h : SameAt j n x y) (hy : RealAt n y) :
    RealAt n (Stage.pick (Stage.book l C) (Stage.amin (Stage.dist y (Stage.book l C)))) := by
  intro a
  obtain ⟨s, b, rfl⟩ := channel a
  obtain ⟨k, hk⟩ := hard_at l C N hC hN h hy s
  rw [(hk b).2]
  exact hC _

/-- What goes on to the restore path are the codewords, both numbers being real. -/
theorem quant_same {q h : Vec Ideal S147456x64 .f32} (hq : RealAt n q) (hh : RealAt n h) {x} (hx : SameAt j n x h) :
    SameAt j n x (Stage.quant q h) := by
  intro a
  rw [quant_apply, add_sub_back (hq a) (hh a)]
  exact hx a

end Cert.Equal

end
-- ==== Proof.Ref.Run.lean ====
/- The reference's run: it ends with every buffer holding what the steps of the mathematics say. -/
module

public import proofs.«01_k».proof.Proof.Ref.Stages
public import Idealize.ShloMosaic.Lib.Pipeline.Frame

@[expose] public section

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The steps in order. -/
def steps : List (List (HloOp τ sig (Elt F))) :=
  [Ops.tok, Ops.enc0, Ops.head0, Ops.dist0, Ops.amin0, Ops.pick0, Ops.quant0, Ops.loss0, Ops.lat0, Ops.enc1, Ops.head1, Ops.dist1, Ops.amin1, Ops.pick1, Ops.quant1, Ops.loss1, Ops.lat1, Ops.enc2, Ops.head2, Ops.dist2, Ops.amin2, Ops.pick2, Ops.quant2, Ops.loss2, Ops.lat2, Ops.zero, Ops.deq2, Ops.side2, Ops.rest2, Ops.deq1, Ops.side1, Ops.rest1, Ops.deq0, Ops.side0, Ops.rest0, Ops.out]

/-- The buffers each step writes, in order. -/
def written : List (List (Ref sig .tc)) :=
  [[main_v0, main_v1],
   [main_v2, main_v3, main_v4, main_v5, main_v6, main_v7, main_v8, main_v9, main_v10],
   [main_v11, main_v12, main_v13, main_v14, main_v15, main_v16, main_v17, main_v18, main_v19],
   [main_v20, main_v21, main_v22, main_v23, main_cst, main_v24, main_v25, main_v26, main_v27, main_cst_0, main_v28, main_v29, main_v30, main_v31, main_v32, main_cst_1, main_v33, main_v34, main_v35, main_v36],
   [main_call0_v0, main_call0_cst, main_call0_c, main_call0_v1_0, main_v37],
   [main_v38, main_v39, main_c, main_v40, main_v41, main_c_2, main_v42, main_v43, main_v44, main_c_3, main_v45, main_v46, main_c_4, main_v47, main_v48, main_v49, main_v50, main_v51, main_v52, main_v53, main_v54, main_v55],
   [main_v56, main_v57],
   [main_v58, main_v59, main_cst_5, main_v60, main_cst_6, main_v61, main_cst_7, main_v62, main_v63, main_v64, main_cst_8, main_v65, main_cst_9, main_v66, main_cst_10, main_v67, main_v68],
   [main_v69, main_v70, main_v71, main_v72, main_v73, main_v74, main_v75, main_v76, main_v77],
   [main_v78, main_v79, main_v80, main_v81, main_v82, main_v83, main_v84, main_v85, main_v86],
   [main_v87, main_v88, main_v89, main_v90, main_v91, main_v92, main_v93, main_v94, main_v95],
   [main_v96, main_v97, main_v98, main_v99, main_cst_11, main_v100, main_v101, main_v102, main_v103, main_cst_12, main_v104, main_v105, main_v106, main_v107, main_v108, main_cst_13, main_v109, main_v110, main_v111, main_v112],
   [main_call1_v0, main_call1_cst, main_call1_c, main_call1_v1_0, main_v113],
   [main_v114, main_v115, main_c_14, main_v116, main_v117, main_c_15, main_v118, main_v119, main_v120, main_c_16, main_v121, main_v122, main_c_17, main_v123, main_v124, main_v125, main_v126, main_v127, main_v128, main_v129, main_v130, main_v131],
   [main_v132, main_v133],
   [main_v134, main_v135, main_cst_18, main_v136, main_cst_19, main_v137, main_v138, main_v139, main_v140, main_cst_20, main_v141, main_cst_21, main_v142, main_cst_22, main_v143, main_v144],
   [main_v145, main_v146, main_v147, main_v148, main_v149, main_v150, main_v151, main_v152, main_v153],
   [main_v154, main_v155, main_v156, main_v157, main_v158, main_v159, main_v160, main_v161, main_v162],
   [main_v163, main_v164, main_v165, main_v166, main_v167, main_v168, main_v169, main_v170, main_v171],
   [main_v172, main_v173, main_v174, main_v175, main_cst_23, main_v176, main_v177, main_v178, main_v179, main_cst_24, main_v180, main_v181, main_v182, main_v183, main_v184, main_cst_25, main_v185, main_v186, main_v187, main_v188],
   [main_call2_v0, main_call2_cst, main_call2_c, main_call2_v1_0, main_v189],
   [main_v190, main_v191, main_c_26, main_v192, main_v193, main_c_27, main_v194, main_v195, main_v196, main_c_28, main_v197, main_v198, main_c_29, main_v199, main_v200, main_v201, main_v202, main_v203, main_v204, main_v205, main_v206, main_v207],
   [main_v208, main_v209],
   [main_v210, main_v211, main_cst_30, main_v212, main_cst_31, main_v213, main_v214, main_v215, main_v216, main_cst_32, main_v217, main_cst_33, main_v218, main_cst_34, main_v219, main_v220],
   [main_v221, main_v222, main_v223, main_v224, main_v225, main_v226, main_v227, main_v228, main_v229],
   [main_cst_35, main_v230],
   [main_v231, main_v232, main_v233, main_v234, main_v235, main_v236, main_v237, main_v238, main_v239],
   [main_v240, main_v241, main_v242, main_v243, main_v244, main_v245, main_v246, main_v247, main_v248],
   [main_v249, main_v250, main_v251, main_v252, main_v253, main_v254, main_v255, main_v256, main_v257, main_v258],
   [main_v259, main_v260, main_v261, main_v262, main_v263, main_v264, main_v265, main_v266, main_v267],
   [main_v268, main_v269, main_v270, main_v271, main_v272, main_v273, main_v274, main_v275, main_v276],
   [main_v277, main_v278, main_v279, main_v280, main_v281, main_v282, main_v283, main_v284, main_v285, main_v286],
   [main_v287, main_v288, main_v289, main_v290, main_v291, main_v292, main_v293, main_v294, main_v295],
   [main_v296, main_v297, main_v298, main_v299, main_v300, main_v301, main_v302, main_v303, main_v304],
   [main_v305, main_v306, main_v307, main_v308, main_v309, main_v310, main_v311, main_v312, main_v313, main_v314],
   [main_v315]]

set_option maxRecDepth 100000 in
/-- The reference program is the line of its steps' operations. -/
theorem main_eq (c : Dev nD) : main (F := F) c = seq Ops.all := rfl

set_option maxRecDepth 100000 in
/-- The steps one after the other are all the operations. -/
theorem steps_flatten : (steps (F := F)).flatten = Ops.all := rfl

set_option maxRecDepth 100000 in
/-- The steps write what `written` lists. -/
theorem steps_writes :
    (steps (F := F)).map (List.map HloOp.writes) = written.map (List.map fun r => {Proc.devRef (τ := τ) .tc r}) := rfl

set_option maxRecDepth 100000 in
/-- No operation of the reference makes up the contents of a buffer. -/
theorem all_fresh : (Ops.all : List (HloOp τ sig (Elt F))).Forall fun op => op.fresh = ∅ := forall_fresh_of_map rfl

set_option maxRecDepth 100000 in
/-- Every operation of the reference works on the TensorCore's buffers. -/
theorem all_bufs : (Ops.all : List (HloOp τ sig (Elt F))).Forall fun op => op.bufs ⊆ tcRefs τ sig := by
  simp only [Ops.all, List.cons_append, List.nil_append, List.Forall, TRef.nullary, TRef.quaternary, nullary_bufs_sub, unary_bufs_sub, binary_bufs_sub,
    ternary_bufs_sub, quaternary_bufs_sub, reshape_bufs_sub, and_self]

/-- The program scopes no buffer. -/
theorem scoped_refs : (Finset.univ.filter fun b : Ref sig .tc => b.isScoped) = ∅ := by decide

/-- The program scopes no semaphore. -/
theorem scoped_sems : (Finset.univ.filter fun sm : SemLoc sig => sm.isScoped .tc) = ∅ := by decide

/-- What the buffers hold after the first `k` steps. -/
def upTo (k : ℕ) (V : Valuation τ sig (Elt F)) : Valuation τ sig (Elt F) := after (steps.take k).flatten V

/-- Running two lines one after the other. -/
theorem after_append (xs ys : List (HloOp τ sig (Elt F))) (V : Valuation τ sig (Elt F)) :
    after (xs ++ ys) V = after ys (after xs V) := by
  induction xs generalizing V with
  | nil => rfl
  | cons x xs ih => exact ih _

/-- What the buffers hold at the end. -/
def atEnd (V : Valuation τ sig (Elt F)) : Valuation τ sig (Elt F) := after Ops.all V

/-- A buffer that no step from the `k`-th on writes holds at the end what it holds after the first `k` steps. -/
theorem keep (k : ℕ) (V : Valuation τ sig (Elt F)) (r : Ref sig .tc) (h : r ∉ (written.drop k).flatten) :
    atEnd V (Proc.devRef .tc r) = upTo k V (Proc.devRef .tc r) := by
  have e : Ops.all = (steps (F := F)).flatten := steps_flatten.symm
  have hs : (steps (F := F)).flatten = (steps.take k).flatten ++ (steps.drop k).flatten := by
    rw [← List.flatten_append, List.take_append_drop]
  unfold atEnd upTo
  rw [e, hs, after_append]
  refine after_of_writes_sub _ _ (forall_writes_sub_of_map ?_) h
  rw [List.map_flatten, List.map_flatten, List.map_drop, List.map_drop, steps_writes]

/-- A buffer written by step `k` and by no later step holds at the end what that step leaves in it. -/
theorem at_step (k : ℕ) (hk : k < 36) (V : Valuation τ sig (Elt F)) (r : Ref sig .tc)
    (h : r ∉ (written.drop (k + 1)).flatten) :
    atEnd V (Proc.devRef .tc r) = after (steps.getD k []) (upTo k V) (Proc.devRef .tc r) := by
  rw [keep (k + 1) V r h]
  unfold upTo
  have hk' : k < (steps (F := F)).length := hk
  rw [List.take_succ_eq_append_getElem hk', List.flatten_append, after_append, List.flatten_singleton, List.getElem_eq_getD []]

/-- The tokens. -/
theorem tok_v1 (V : Valuation τ sig (Elt F)) :
    atEnd V (no_index (Proc.devRef .tc main_v1)) = Stage.tok (atEnd V (Proc.devRef .tc main_arg0)) := by
  rw [at_step 0 (by decide) V main_v1 (by decide), keep 0 V main_arg0 (by decide)]
  change after Ops.tok _ _ = _
  after_results_simp; rfl

/-- The latent tokens of the first level. -/
theorem enc0_v10 (V : Valuation τ sig (Elt F)) :
    atEnd V (no_index (Proc.devRef .tc main_v10)) = Stage.lin 0 (atEnd V (Proc.devRef .tc main_v1)) (atEnd V (Proc.devRef .tc main_arg1)) (atEnd V (Proc.devRef .tc main_arg2)) := by
  rw [at_step 1 (by decide) V main_v10 (by decide), keep 1 V main_v1 (by decide), keep 1 V main_arg1 (by decide), keep 1 V main_arg2 (by decide)]
  change after Ops.enc0 _ _ = _
  after_results_simp; rfl

/-- The tokens to quantize of the first level. -/
theorem head0_v19 (V : Valuation τ sig (Elt F)) :
    atEnd V (no_index (Proc.devRef .tc main_v19)) = Stage.lin 0 (atEnd V (Proc.devRef .tc main_v10)) (atEnd V (Proc.devRef .tc main_arg3)) (atEnd V (Proc.devRef .tc main_arg4)) := by
  rw [at_step 2 (by decide) V main_v19 (by decide), keep 2 V main_v10 (by decide), keep 2 V main_arg3 (by decide), keep 2 V main_arg4 (by decide)]
  change after Ops.head0 _ _ = _
  after_results_simp; rfl

/-- The codebooks of the first level. -/
theorem dist0_v22 (V : Valuation τ sig (Elt F)) :
    atEnd V (no_index (Proc.devRef .tc main_v22)) = Stage.book 0 (atEnd V (Proc.devRef .tc main_arg13)) := by
  rw [at_step 3 (by decide) V main_v22 (by decide), keep 3 V main_arg13 (by decide)]
  change after Ops.dist0 _ _ = _
  after_results_simp; rfl

/-- The distances of the first level. -/
theorem dist0_v36 (V : Valuation τ sig (Elt F)) :
    atEnd V (no_index (Proc.devRef .tc main_v36)) = Stage.dist (atEnd V (Proc.devRef .tc main_v19)) (Stage.book 0 (atEnd V (Proc.devRef .tc main_arg13))) := by
  rw [at_step 3 (by decide) V main_v36 (by decide), keep 3 V main_v19 (by decide), keep 3 V main_arg13 (by decide)]
  change after Ops.dist0 _ _ = _
  after_results_simp; rfl

/-- The nearest codewords of the first level. -/
theorem amin0_v37 (V : Valuation τ sig (Elt F)) :
    atEnd V (no_index (Proc.devRef .tc main_v37)) = Stage.amin (atEnd V (Proc.devRef .tc main_v36)) := by
  rw [at_step 4 (by decide) V main_v37 (by decide), keep 4 V main_v36 (by decide)]
  change after Ops.amin0 _ _ = _
  after_results_simp; rfl

/-- The chosen codewords of the first level. -/
theorem pick0_v55 (V : Valuation τ sig (Elt F)) :
    atEnd V (no_index (Proc.devRef .tc main_v55)) = Stage.pick (atEnd V (Proc.devRef .tc main_v22)) (atEnd V (Proc.devRef .tc main_v37)) := by
  rw [at_step 5 (by decide) V main_v55 (by decide), keep 5 V main_v22 (by decide), keep 5 V main_v37 (by decide)]
  change after Ops.pick0 _ _ = _
  after_results_simp; rfl

/-- The quantized tokens of the first level. -/
theorem quant0_v57 (V : Valuation τ sig (Elt F)) :
    atEnd V (no_index (Proc.devRef .tc main_v57)) = Stage.quant (atEnd V (Proc.devRef .tc main_v19)) (atEnd V (Proc.devRef .tc main_v55)) := by
  rw [at_step 6 (by decide) V main_v57 (by decide), keep 6 V main_v19 (by decide), keep 6 V main_v55 (by decide)]
  change after Ops.quant0 _ _ = _
  after_results_simp; rfl

/-- The loss after the first level. -/
theorem loss0_v68 (V : Valuation τ sig (Elt F)) :
    atEnd V (no_index (Proc.devRef .tc main_v68)) = Stage.loss (constant S_ .f32 0x00000000#32) (atEnd V (Proc.devRef .tc main_v19)) (atEnd V (Proc.devRef .tc main_v55)) := by
  rw [at_step 7 (by decide) V main_v68 (by decide), keep 7 V main_v19 (by decide), keep 7 V main_v55 (by decide)]
  change after Ops.loss0 _ _ = _
  after_results_simp; rfl

/-- The tokens handed to the level after the first. -/
theorem lat0_v77 (V : Valuation τ sig (Elt F)) :
    atEnd V (no_index (Proc.devRef .tc main_v77)) = Stage.lin 0 (atEnd V (Proc.devRef .tc main_v10)) (atEnd V (Proc.devRef .tc main_arg5)) (atEnd V (Proc.devRef .tc main_arg6)) := by
  rw [at_step 8 (by decide) V main_v77 (by decide), keep 8 V main_v10 (by decide), keep 8 V main_arg5 (by decide), keep 8 V main_arg6 (by decide)]
  change after Ops.lat0 _ _ = _
  after_results_simp; rfl

/-- The latent tokens of the second level. -/
theorem enc1_v86 (V : Valuation τ sig (Elt F)) :
    atEnd V (no_index (Proc.devRef .tc main_v86)) = Stage.lin 1 (atEnd V (Proc.devRef .tc main_v77)) (atEnd V (Proc.devRef .tc main_arg1)) (atEnd V (Proc.devRef .tc main_arg2)) := by
  rw [at_step 9 (by decide) V main_v86 (by decide), keep 9 V main_v77 (by decide), keep 9 V main_arg1 (by decide), keep 9 V main_arg2 (by decide)]
  change after Ops.enc1 _ _ = _
  after_results_simp; rfl

/-- The tokens to quantize of the second level. -/
theorem head1_v95 (V : Valuation τ sig (Elt F)) :
    atEnd V (no_index (Proc.devRef .tc main_v95)) = Stage.lin 1 (atEnd V (Proc.devRef .tc main_v86)) (atEnd V (Proc.devRef .tc main_arg3)) (atEnd V (Proc.devRef .tc main_arg4)) := by
  rw [at_step 10 (by decide) V main_v95 (by decide), keep 10 V main_v86 (by decide), keep 10 V main_arg3 (by decide), keep 10 V main_arg4 (by decide)]
  change after Ops.head1 _ _ = _
  after_results_simp; rfl

/-- The codebooks of the second level. -/
theorem dist1_v98 (V : Valuation τ sig (Elt F)) :
    atEnd V (no_index (Proc.devRef .tc main_v98)) = Stage.book 1 (atEnd V (Proc.devRef .tc main_arg13)) := by
  rw [at_step 11 (by decide) V main_v98 (by decide), keep 11 V main_arg13 (by decide)]
  change after Ops.dist1 _ _ = _
  after_results_simp; rfl

/-- The distances of the second level. -/
theorem dist1_v112 (V : Valuation τ sig (Elt F)) :
    atEnd V (no_index (Proc.devRef .tc main_v112)) = Stage.dist (atEnd V (Proc.devRef .tc main_v95)) (Stage.book 1 (atEnd V (Proc.devRef .tc main_arg13))) := by
  rw [at_step 11 (by decide) V main_v112 (by decide), keep 11 V main_v95 (by decide), keep 11 V main_arg13 (by decide)]
  change after Ops.dist1 _ _ = _
  after_results_simp; rfl

/-- The nearest codewords of the second level. -/
theorem amin1_v113 (V : Valuation τ sig (Elt F)) :
    atEnd V (no_index (Proc.devRef .tc main_v113)) = Stage.amin (atEnd V (Proc.devRef .tc main_v112)) := by
  rw [at_step 12 (by decide) V main_v113 (by decide), keep 12 V main_v112 (by decide)]
  change after Ops.amin1 _ _ = _
  after_results_simp; rfl

/-- The chosen codewords of the second level. -/
theorem pick1_v131 (V : Valuation τ sig (Elt F)) :
    atEnd V (no_index (Proc.devRef .tc main_v131)) = Stage.pick (atEnd V (Proc.devRef .tc main_v98)) (atEnd V (Proc.devRef .tc main_v113)) := by
  rw [at_step 13 (by decide) V main_v131 (by decide), keep 13 V main_v98 (by decide), keep 13 V main_v113 (by decide)]
  change after Ops.pick1 _ _ = _
  after_results_simp; rfl

/-- The quantized tokens of the second level. -/
theorem quant1_v133 (V : Valuation τ sig (Elt F)) :
    atEnd V (no_index (Proc.devRef .tc main_v133)) = Stage.quant (atEnd V (Proc.devRef .tc main_v95)) (atEnd V (Proc.devRef .tc main_v131)) := by
  rw [at_step 14 (by decide) V main_v133 (by decide), keep 14 V main_v95 (by decide), keep 14 V main_v131 (by decide)]
  change after Ops.quant1 _ _ = _
  after_results_simp; rfl

/-- The loss after the second level. -/
theorem loss1_v144 (V : Valuation τ sig (Elt F)) :
    atEnd V (no_index (Proc.devRef .tc main_v144)) = Stage.loss (atEnd V (Proc.devRef .tc main_v68)) (atEnd V (Proc.devRef .tc main_v95)) (atEnd V (Proc.devRef .tc main_v131)) := by
  rw [at_step 15 (by decide) V main_v144 (by decide), keep 15 V main_v68 (by decide), keep 15 V main_v95 (by decide), keep 15 V main_v131 (by decide)]
  change after Ops.loss1 _ _ = _
  after_results_simp; rfl

/-- The tokens handed to the level after the second. -/
theorem lat1_v153 (V : Valuation τ sig (Elt F)) :
    atEnd V (no_index (Proc.devRef .tc main_v153)) = Stage.lin 1 (atEnd V (Proc.devRef .tc main_v86)) (atEnd V (Proc.devRef .tc main_arg5)) (atEnd V (Proc.devRef .tc main_arg6)) := by
  rw [at_step 16 (by decide) V main_v153 (by decide), keep 16 V main_v86 (by decide), keep 16 V main_arg5 (by decide), keep 16 V main_arg6 (by decide)]
  change after Ops.lat1 _ _ = _
  after_results_simp; rfl

/-- The latent tokens of the third level. -/
theorem enc2_v162 (V : Valuation τ sig (Elt F)) :
    atEnd V (no_index (Proc.devRef .tc main_v162)) = Stage.lin 2 (atEnd V (Proc.devRef .tc main_v153)) (atEnd V (Proc.devRef .tc main_arg1)) (atEnd V (Proc.devRef .tc main_arg2)) := by
  rw [at_step 17 (by decide) V main_v162 (by decide), keep 17 V main_v153 (by decide), keep 17 V main_arg1 (by decide), keep 17 V main_arg2 (by decide)]
  change after Ops.enc2 _ _ = _
  after_results_simp; rfl

/-- The tokens to quantize of the third level. -/
theorem head2_v171 (V : Valuation τ sig (Elt F)) :
    atEnd V (no_index (Proc.devRef .tc main_v171)) = Stage.lin 2 (atEnd V (Proc.devRef .tc main_v162)) (atEnd V (Proc.devRef .tc main_arg3)) (atEnd V (Proc.devRef .tc main_arg4)) := by
  rw [at_step 18 (by decide) V main_v171 (by decide), keep 18 V main_v162 (by decide), keep 18 V main_arg3 (by decide), keep 18 V main_arg4 (by decide)]
  change after Ops.head2 _ _ = _
  after_results_simp; rfl

/-- The codebooks of the third level. -/
theorem dist2_v174 (V : Valuation τ sig (Elt F)) :
    atEnd V (no_index (Proc.devRef .tc main_v174)) = Stage.book 2 (atEnd V (Proc.devRef .tc main_arg13)) := by
  rw [at_step 19 (by decide) V main_v174 (by decide), keep 19 V main_arg13 (by decide)]
  change after Ops.dist2 _ _ = _
  after_results_simp; rfl

/-- The distances of the third level. -/
theorem dist2_v188 (V : Valuation τ sig (Elt F)) :
    atEnd V (no_index (Proc.devRef .tc main_v188)) = Stage.dist (atEnd V (Proc.devRef .tc main_v171)) (Stage.book 2 (atEnd V (Proc.devRef .tc main_arg13))) := by
  rw [at_step 19 (by decide) V main_v188 (by decide), keep 19 V main_v171 (by decide), keep 19 V main_arg13 (by decide)]
  change after Ops.dist2 _ _ = _
  after_results_simp; rfl

/-- The nearest codewords of the third level. -/
theorem amin2_v189 (V : Valuation τ sig (Elt F)) :
    atEnd V (no_index (Proc.devRef .tc main_v189)) = Stage.amin (atEnd V (Proc.devRef .tc main_v188)) := by
  rw [at_step 20 (by decide) V main_v189 (by decide), keep 20 V main_v188 (by decide)]
  change after Ops.amin2 _ _ = _
  after_results_simp; rfl

/-- The chosen codewords of the third level. -/
theorem pick2_v207 (V : Valuation τ sig (Elt F)) :
    atEnd V (no_index (Proc.devRef .tc main_v207)) = Stage.pick (atEnd V (Proc.devRef .tc main_v174)) (atEnd V (Proc.devRef .tc main_v189)) := by
  rw [at_step 21 (by decide) V main_v207 (by decide), keep 21 V main_v174 (by decide), keep 21 V main_v189 (by decide)]
  change after Ops.pick2 _ _ = _
  after_results_simp; rfl

/-- The quantized tokens of the third level. -/
theorem quant2_v209 (V : Valuation τ sig (Elt F)) :
    atEnd V (no_index (Proc.devRef .tc main_v209)) = Stage.quant (atEnd V (Proc.devRef .tc main_v171)) (atEnd V (Proc.devRef .tc main_v207)) := by
  rw [at_step 22 (by decide) V main_v209 (by decide), keep 22 V main_v171 (by decide), keep 22 V main_v207 (by decide)]
  change after Ops.quant2 _ _ = _
  after_results_simp; rfl

/-- The loss after the third level. -/
theorem loss2_v220 (V : Valuation τ sig (Elt F)) :
    atEnd V (no_index (Proc.devRef .tc main_v220)) = Stage.loss (atEnd V (Proc.devRef .tc main_v144)) (atEnd V (Proc.devRef .tc main_v171)) (atEnd V (Proc.devRef .tc main_v207)) := by
  rw [at_step 23 (by decide) V main_v220 (by decide), keep 23 V main_v144 (by decide), keep 23 V main_v171 (by decide), keep 23 V main_v207 (by decide)]
  change after Ops.loss2 _ _ = _
  after_results_simp; rfl

/-- The zero tokens. -/
theorem zero_v230 (V : Valuation τ sig (Elt F)) :
    atEnd V (no_index (Proc.devRef .tc main_v230)) = Stage.zero := by
  rw [at_step 25 (by decide) V main_v230 (by decide)]
  change after Ops.zero _ _ = _
  after_results_simp; rfl

/-- The dequantized tokens of the third level. -/
theorem deq2_v239 (V : Valuation τ sig (Elt F)) :
    atEnd V (no_index (Proc.devRef .tc main_v239)) = Stage.lin 2 (atEnd V (Proc.devRef .tc main_v209)) (atEnd V (Proc.devRef .tc main_arg7)) (atEnd V (Proc.devRef .tc main_arg8)) := by
  rw [at_step 26 (by decide) V main_v239 (by decide), keep 26 V main_v209 (by decide), keep 26 V main_arg7 (by decide), keep 26 V main_arg8 (by decide)]
  change after Ops.deq2 _ _ = _
  after_results_simp; rfl

/-- The side tokens of the third level. -/
theorem side2_v248 (V : Valuation τ sig (Elt F)) :
    atEnd V (no_index (Proc.devRef .tc main_v248)) = Stage.lin 2 (atEnd V (Proc.devRef .tc main_v230)) (atEnd V (Proc.devRef .tc main_arg11)) (atEnd V (Proc.devRef .tc main_arg12)) := by
  rw [at_step 27 (by decide) V main_v248 (by decide), keep 27 V main_v230 (by decide), keep 27 V main_arg11 (by decide), keep 27 V main_arg12 (by decide)]
  change after Ops.side2 _ _ = _
  after_results_simp; rfl

/-- The restored tokens of the third level. -/
theorem rest2_v258 (V : Valuation τ sig (Elt F)) :
    atEnd V (no_index (Proc.devRef .tc main_v258)) = Stage.lin 2 (addf (atEnd V (Proc.devRef .tc main_v239)) (atEnd V (Proc.devRef .tc main_v248))) (atEnd V (Proc.devRef .tc main_arg9)) (atEnd V (Proc.devRef .tc main_arg10)) := by
  rw [at_step 28 (by decide) V main_v258 (by decide), keep 28 V main_v239 (by decide), keep 28 V main_v248 (by decide), keep 28 V main_arg9 (by decide), keep 28 V main_arg10 (by decide)]
  change after Ops.rest2 _ _ = _
  after_results_simp; rfl

/-- The dequantized tokens of the second level. -/
theorem deq1_v267 (V : Valuation τ sig (Elt F)) :
    atEnd V (no_index (Proc.devRef .tc main_v267)) = Stage.lin 1 (atEnd V (Proc.devRef .tc main_v133)) (atEnd V (Proc.devRef .tc main_arg7)) (atEnd V (Proc.devRef .tc main_arg8)) := by
  rw [at_step 29 (by decide) V main_v267 (by decide), keep 29 V main_v133 (by decide), keep 29 V main_arg7 (by decide), keep 29 V main_arg8 (by decide)]
  change after Ops.deq1 _ _ = _
  after_results_simp; rfl

/-- The side tokens of the second level. -/
theorem side1_v276 (V : Valuation τ sig (Elt F)) :
    atEnd V (no_index (Proc.devRef .tc main_v276)) = Stage.lin 1 (atEnd V (Proc.devRef .tc main_v258)) (atEnd V (Proc.devRef .tc main_arg11)) (atEnd V (Proc.devRef .tc main_arg12)) := by
  rw [at_step 30 (by decide) V main_v276 (by decide), keep 30 V main_v258 (by decide), keep 30 V main_arg11 (by decide), keep 30 V main_arg12 (by decide)]
  change after Ops.side1 _ _ = _
  after_results_simp; rfl

/-- The restored tokens of the second level. -/
theorem rest1_v286 (V : Valuation τ sig (Elt F)) :
    atEnd V (no_index (Proc.devRef .tc main_v286)) = Stage.lin 1 (addf (atEnd V (Proc.devRef .tc main_v267)) (atEnd V (Proc.devRef .tc main_v276))) (atEnd V (Proc.devRef .tc main_arg9)) (atEnd V (Proc.devRef .tc main_arg10)) := by
  rw [at_step 31 (by decide) V main_v286 (by decide), keep 31 V main_v267 (by decide), keep 31 V main_v276 (by decide), keep 31 V main_arg9 (by decide), keep 31 V main_arg10 (by decide)]
  change after Ops.rest1 _ _ = _
  after_results_simp; rfl

/-- The dequantized tokens of the first level. -/
theorem deq0_v295 (V : Valuation τ sig (Elt F)) :
    atEnd V (no_index (Proc.devRef .tc main_v295)) = Stage.lin 0 (atEnd V (Proc.devRef .tc main_v57)) (atEnd V (Proc.devRef .tc main_arg7)) (atEnd V (Proc.devRef .tc main_arg8)) := by
  rw [at_step 32 (by decide) V main_v295 (by decide), keep 32 V main_v57 (by decide), keep 32 V main_arg7 (by decide), keep 32 V main_arg8 (by decide)]
  change after Ops.deq0 _ _ = _
  after_results_simp; rfl

/-- The side tokens of the first level. -/
theorem side0_v304 (V : Valuation τ sig (Elt F)) :
    atEnd V (no_index (Proc.devRef .tc main_v304)) = Stage.lin 0 (atEnd V (Proc.devRef .tc main_v286)) (atEnd V (Proc.devRef .tc main_arg11)) (atEnd V (Proc.devRef .tc main_arg12)) := by
  rw [at_step 33 (by decide) V main_v304 (by decide), keep 33 V main_v286 (by decide), keep 33 V main_arg11 (by decide), keep 33 V main_arg12 (by decide)]
  change after Ops.side0 _ _ = _
  after_results_simp; rfl

/-- The restored tokens of the first level. -/
theorem rest0_v314 (V : Valuation τ sig (Elt F)) :
    atEnd V (no_index (Proc.devRef .tc main_v314)) = Stage.lin 0 (addf (atEnd V (Proc.devRef .tc main_v295)) (atEnd V (Proc.devRef .tc main_v304))) (atEnd V (Proc.devRef .tc main_arg9)) (atEnd V (Proc.devRef .tc main_arg10)) := by
  rw [at_step 34 (by decide) V main_v314 (by decide), keep 34 V main_v295 (by decide), keep 34 V main_v304 (by decide), keep 34 V main_arg9 (by decide), keep 34 V main_arg10 (by decide)]
  change after Ops.rest0 _ _ = _
  after_results_simp; rfl

/-- The restored feature map. -/
theorem out_v315 (V : Valuation τ sig (Elt F)) :
    atEnd V (no_index (Proc.devRef .tc main_v315)) = Stage.out (atEnd V (Proc.devRef .tc main_v314)) := by
  rw [at_step 35 (by decide) V main_v315 (by decide), keep 35 V main_v314 (by decide)]
  change after Ops.out _ _ = _
  after_results_simp; rfl

/-- A level's latent tokens. -/
def zOf (l : Fin 3) (V : Valuation τ sig (Elt F)) (x : Vec F S147456x64 .f32) : Vec F S147456x64 .f32 :=
  Stage.lin l x (V (Proc.devRef .tc main_arg1)) (V (Proc.devRef .tc main_arg2))

/-- A level's tokens to quantize. -/
def qOf (l : Fin 3) (V : Valuation τ sig (Elt F)) (x : Vec F S147456x64 .f32) : Vec F S147456x64 .f32 :=
  Stage.lin l (zOf l V x) (V (Proc.devRef .tc main_arg3)) (V (Proc.devRef .tc main_arg4))

/-- The tokens a level hands to the next. -/
def nextOf (l : Fin 3) (V : Valuation τ sig (Elt F)) (x : Vec F S147456x64 .f32) : Vec F S147456x64 .f32 :=
  Stage.lin l (zOf l V x) (V (Proc.devRef .tc main_arg5)) (V (Proc.devRef .tc main_arg6))

/-- A level's chosen codewords. -/
def hardOf (l : Fin 3) (V : Valuation τ sig (Elt F)) (x : Vec F S147456x64 .f32) : Vec F S147456x64 .f32 :=
  Stage.pick (Stage.book l (V (Proc.devRef .tc main_arg13)))
    (Stage.amin (Stage.dist (qOf l V x) (Stage.book l (V (Proc.devRef .tc main_arg13)))))

/-- A level's step of the restore path. -/
def restOf (l : Fin 3) (V : Valuation τ sig (Elt F)) (x y : Vec F S147456x64 .f32) : Vec F S147456x64 .f32 :=
  Stage.lin l
    (addf
      (Stage.lin l (Stage.quant (qOf l V x) (hardOf l V x)) (V (Proc.devRef .tc main_arg7)) (V (Proc.devRef .tc main_arg8)))
      (Stage.lin l y (V (Proc.devRef .tc main_arg11)) (V (Proc.devRef .tc main_arg12))))
    (V (Proc.devRef .tc main_arg9)) (V (Proc.devRef .tc main_arg10))

/-- The tokens each level starts from. -/
def x0 (V : Valuation τ sig (Elt F)) : Vec F S147456x64 .f32 := Stage.tok (V (Proc.devRef .tc main_arg0))
@[inherit_doc x0] def x1 (V : Valuation τ sig (Elt F)) : Vec F S147456x64 .f32 := nextOf 0 V (x0 V)
@[inherit_doc x0] def x2 (V : Valuation τ sig (Elt F)) : Vec F S147456x64 .f32 := nextOf 1 V (x1 V)

/-- The restored tokens. -/
def restored (V : Valuation τ sig (Elt F)) : Vec F S1x384x384x64 .f32 :=
  Stage.out (restOf 0 V (x0 V) (restOf 1 V (x1 V) (restOf 2 V (x2 V) Stage.zero)))

/-- The codebook loss. -/
def lossOf (V : Valuation τ sig (Elt F)) : Vec F S_ .f32 :=
  Stage.loss (Stage.loss (Stage.loss (constant S_ .f32 0x00000000#32) (qOf 0 V (x0 V)) (hardOf 0 V (x0 V)))
    (qOf 1 V (x1 V)) (hardOf 1 V (x1 V))) (qOf 2 V (x2 V)) (hardOf 2 V (x2 V))

/-- Argument 0 keeps its contents. -/
theorem arg0_end (V : Valuation τ sig (Elt F)) : atEnd V (no_index (Proc.devRef .tc main_arg0)) = V (Proc.devRef .tc main_arg0) :=
  keep 0 V main_arg0 (by decide)

/-- Argument 1 keeps its contents. -/
theorem arg1_end (V : Valuation τ sig (Elt F)) : atEnd V (no_index (Proc.devRef .tc main_arg1)) = V (Proc.devRef .tc main_arg1) :=
  keep 0 V main_arg1 (by decide)

/-- Argument 2 keeps its contents. -/
theorem arg2_end (V : Valuation τ sig (Elt F)) : atEnd V (no_index (Proc.devRef .tc main_arg2)) = V (Proc.devRef .tc main_arg2) :=
  keep 0 V main_arg2 (by decide)

/-- Argument 3 keeps its contents. -/
theorem arg3_end (V : Valuation τ sig (Elt F)) : atEnd V (no_index (Proc.devRef .tc main_arg3)) = V (Proc.devRef .tc main_arg3) :=
  keep 0 V main_arg3 (by decide)

/-- Argument 4 keeps its contents. -/
theorem arg4_end (V : Valuation τ sig (Elt F)) : atEnd V (no_index (Proc.devRef .tc main_arg4)) = V (Proc.devRef .tc main_arg4) :=
  keep 0 V main_arg4 (by decide)

/-- Argument 5 keeps its contents. -/
theorem arg5_end (V : Valuation τ sig (Elt F)) : atEnd V (no_index (Proc.devRef .tc main_arg5)) = V (Proc.devRef .tc main_arg5) :=
  keep 0 V main_arg5 (by decide)

/-- Argument 6 keeps its contents. -/
theorem arg6_end (V : Valuation τ sig (Elt F)) : atEnd V (no_index (Proc.devRef .tc main_arg6)) = V (Proc.devRef .tc main_arg6) :=
  keep 0 V main_arg6 (by decide)

/-- Argument 7 keeps its contents. -/
theorem arg7_end (V : Valuation τ sig (Elt F)) : atEnd V (no_index (Proc.devRef .tc main_arg7)) = V (Proc.devRef .tc main_arg7) :=
  keep 0 V main_arg7 (by decide)

/-- Argument 8 keeps its contents. -/
theorem arg8_end (V : Valuation τ sig (Elt F)) : atEnd V (no_index (Proc.devRef .tc main_arg8)) = V (Proc.devRef .tc main_arg8) :=
  keep 0 V main_arg8 (by decide)

/-- Argument 9 keeps its contents. -/
theorem arg9_end (V : Valuation τ sig (Elt F)) : atEnd V (no_index (Proc.devRef .tc main_arg9)) = V (Proc.devRef .tc main_arg9) :=
  keep 0 V main_arg9 (by decide)

/-- Argument 10 keeps its contents. -/
theorem arg10_end (V : Valuation τ sig (Elt F)) : atEnd V (no_index (Proc.devRef .tc main_arg10)) = V (Proc.devRef .tc main_arg10) :=
  keep 0 V main_arg10 (by decide)

/-- Argument 11 keeps its contents. -/
theorem arg11_end (V : Valuation τ sig (Elt F)) : atEnd V (no_index (Proc.devRef .tc main_arg11)) = V (Proc.devRef .tc main_arg11) :=
  keep 0 V main_arg11 (by decide)

/-- Argument 12 keeps its contents. -/
theorem arg12_end (V : Valuation τ sig (Elt F)) : atEnd V (no_index (Proc.devRef .tc main_arg12)) = V (Proc.devRef .tc main_arg12) :=
  keep 0 V main_arg12 (by decide)

/-- Argument 13 keeps its contents. -/
theorem arg13_end (V : Valuation τ sig (Elt F)) : atEnd V (no_index (Proc.devRef .tc main_arg13)) = V (Proc.devRef .tc main_arg13) :=
  keep 0 V main_arg13 (by decide)

/-- What the end holds as the restored feature map. -/
theorem restored_end (V : Valuation τ sig (Elt F)) : atEnd V (Proc.devRef .tc main_v315) = restored V := by
  simp only [tok_v1, enc0_v10, head0_v19, dist0_v22, dist0_v36, amin0_v37, pick0_v55, quant0_v57, loss0_v68, lat0_v77, enc1_v86, head1_v95, dist1_v98, dist1_v112, amin1_v113, pick1_v131, quant1_v133, loss1_v144, lat1_v153, enc2_v162, head2_v171, dist2_v174, dist2_v188, amin2_v189, pick2_v207, quant2_v209, loss2_v220, zero_v230, deq2_v239, side2_v248, rest2_v258, deq1_v267, side1_v276, rest1_v286, deq0_v295, side0_v304, rest0_v314, out_v315, arg0_end, arg1_end, arg2_end, arg3_end, arg4_end, arg5_end, arg6_end, arg7_end, arg8_end, arg9_end, arg10_end, arg11_end, arg12_end, arg13_end]
  rfl

/-- What the end holds as the loss. -/
theorem loss_end (V : Valuation τ sig (Elt F)) : atEnd V (Proc.devRef .tc main_v220) = lossOf V := by
  simp only [tok_v1, enc0_v10, head0_v19, dist0_v22, dist0_v36, amin0_v37, pick0_v55, quant0_v57, loss0_v68, lat0_v77, enc1_v86, head1_v95, dist1_v98, dist1_v112, amin1_v113, pick1_v131, quant1_v133, loss1_v144, lat1_v153, enc2_v162, head2_v171, dist2_v174, dist2_v188, amin2_v189, pick2_v207, quant2_v209, loss2_v220, zero_v230, deq2_v239, side2_v248, rest2_v258, deq1_v267, side1_v276, rest1_v286, deq0_v295, side0_v304, rest0_v314, out_v315, arg0_end, arg1_end, arg2_end, arg3_end, arg4_end, arg5_end, arg6_end, arg7_end, arg8_end, arg9_end, arg10_end, arg11_end, arg12_end, arg13_end]
  rfl

/-- The reference always ends, with its two results as above and its arguments as they were. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = atEnd (launchContents m c) (Proc.devRef .tc b) :=
  run_seq scoped_refs scoped_sems defs main (fun _ => Ops.all) main_eq (fun _ => all_bufs) m ρ
    fun _ => List.forall_iff_forall_mem.mp all_fresh

end Cert.ReferenceIdeal.Run

end
-- ==== Proof.Eq.Token.lean ====
/- All three levels at one token: the kernel's block and the reference agree on what is quantized, picked and restored. -/
module

public import proofs.«01_k».proof.Proof.Eq.Level
public import proofs.«01_k».proof.Proof.Ref.Run

@[expose] public section

set_option maxRecDepth 16384

noncomputable section

namespace Cert.Equal

open Cert.KernelIdeal Idealize.ShloMosaic Cert.ReferenceIdeal.Read
open Cert.ReferenceIdeal (Stage.lin Stage.dist Stage.book Stage.pick Stage.amin Stage.quant Stage.tok Stage.zero Stage.out)

/-- What both programs are given. -/
structure Args where
  x : Vec Ideal S1x64x384x384 .f32
  enc : Vec Ideal S3x64x64 .f32
  encB : Vec Ideal S3x64 .f32
  quant : Vec Ideal S3x64x64 .f32
  quantB : Vec Ideal S3x64 .f32
  lat : Vec Ideal S3x64x64 .f32
  latB : Vec Ideal S3x64 .f32
  deq : Vec Ideal S3x64x64 .f32
  deqB : Vec Ideal S3x64 .f32
  res : Vec Ideal S3x64x64 .f32
  resB : Vec Ideal S3x64 .f32
  side : Vec Ideal S3x64x64 .f32
  sideB : Vec Ideal S3x64 .f32
  codes : Vec Ideal S3x4x128x16 .f32

namespace Args

variable (A : Args)

/-- What is computed the distances from is real. -/
structure Real : Prop where
  x : ∀ i, IsReal (A.x i)
  enc : ∀ i, IsReal (A.enc i)
  encB : ∀ i, IsReal (A.encB i)
  quant : ∀ i, IsReal (A.quant i)
  quantB : ∀ i, IsReal (A.quantB i)
  lat : ∀ i, IsReal (A.lat i)
  latB : ∀ i, IsReal (A.latB i)
  codes : ∀ i, IsReal (A.codes i)

/-- The reference's latents at a level. -/
def z (l : Fin 3) (y : Vec Ideal S147456x64 .f32) : Vec Ideal S147456x64 .f32 := Stage.lin l y A.enc A.encB

/-- The reference's tokens to quantize at a level. -/
def q (l : Fin 3) (y : Vec Ideal S147456x64 .f32) : Vec Ideal S147456x64 .f32 := Stage.lin l (A.z l y) A.quant A.quantB

/-- What the reference hands to the next level. -/
def next (l : Fin 3) (y : Vec Ideal S147456x64 .f32) : Vec Ideal S147456x64 .f32 := Stage.lin l (A.z l y) A.lat A.latB

/-- The reference's codewords at a level. -/
def hard (l : Fin 3) (y : Vec Ideal S147456x64 .f32) : Vec Ideal S147456x64 .f32 :=
  Stage.pick (Stage.book l A.codes) (Stage.amin (Stage.dist (A.q l y) (Stage.book l A.codes)))

/-- The reference's restored tokens of a level. -/
def rest (l : Fin 3) (y w : Vec Ideal S147456x64 .f32) : Vec Ideal S147456x64 .f32 :=
  Stage.lin l (addf (Stage.lin l (Stage.quant (A.q l y) (A.hard l y)) A.deq A.deqB) (Stage.lin l w A.side A.sideB)) A.res A.resB

/-- What each level of the reference starts from. -/
def start : Fin 3 → Vec Ideal S147456x64 .f32
  | 0 => Stage.tok A.x
  | 1 => A.next 0 (Stage.tok A.x)
  | 2 => A.next 1 (A.next 0 (Stage.tok A.x))

/-- The reference's restored tokens. -/
def restored : Vec Ideal S147456x64 .f32 := A.rest 0 (A.start 0) (A.rest 1 (A.start 1) (A.rest 2 (A.start 2) Stage.zero))

end Args

/-- A block holds what the program is given, token `n` as its column `j`. -/
structure Holds (p : Body.Ins Ideal) (A : Args) (j : Fin 4096) (n : Fin 147456) : Prop where
  x : ∀ k : Fin 64, p.x (ix2 k j) = A.x (ix4 0 k ⟨n.val / 384, by omega⟩ ⟨n.val % 384, by omega⟩)
  enc : p.enc = A.enc
  quant : p.quant = A.quant
  lat : p.lat = A.lat
  deq : p.deq = A.deq
  res : p.res = A.res
  side : p.side = A.side
  bd : p.bd = Body.tabD A.codes
  bg : p.bg = Body.tabG A.codes
  csq : ∃ N, p.csq = Body.tabQ N ∧ ∀ l s k, N (ix3 l s k) = ∑ b : Fin 16, A.codes (ix4 l s k b) * A.codes (ix4 l s k b)
  bias : p.bias = Body.tabB ![A.encB, A.quantB, A.latB, A.deqB, A.resB, A.sideB]

/-- What each level of the kernel starts from. -/
def blockStart (p : Body.Ins Ideal) : Fin 3 → FVec Ideal S64x4096 .f32
  | 0 => Body.x0 p
  | 1 => Body.x1 p
  | 2 => Body.x2 p

variable {p : Body.Ins Ideal} {A : Args} {j : Fin 4096} {n : Fin 147456}

/-- The latents are the same. -/
theorem z_same (H : Holds p A j n) (l : Fin 3) {x y} (h : SameAt j n x y) : SameAt j n (Body.zOf p l x) (A.z l y) := by
  unfold Body.zOf Args.z
  rw [H.enc]
  exact lin_same 0 l _ _ _ (fun a => by rw [H.bias]; rfl) h

/-- What is quantized is the same. -/
theorem q_same (H : Holds p A j n) (l : Fin 3) {x y} (h : SameAt j n x y) : SameAt j n (Body.qOf p l x) (A.q l y) := by
  unfold Body.qOf Args.q
  rw [H.quant]
  exact lin_same 1 l _ _ _ (fun a => by rw [H.bias]; rfl) (z_same H l h)

/-- What the next level starts from is the same. -/
theorem next_same (H : Holds p A j n) (l : Fin 3) {x y} (h : SameAt j n x y) : SameAt j n (Body.nextOf p l x) (A.next l y) := by
  unfold Body.nextOf Args.next
  rw [H.lat]
  exact lin_same 2 l _ _ _ (fun a => by rw [H.bias]; rfl) (z_same H l h)

/-- What is quantized is real. -/
theorem q_real (R : A.Real) (l : Fin 3) {y} (h : RealAt n y) : RealAt n (A.q l y) :=
  lin_real l _ _ R.quant R.quantB (lin_real l _ _ R.enc R.encB h)

/-- What the next level starts from is real. -/
theorem next_real (R : A.Real) (l : Fin 3) {y} (h : RealAt n y) : RealAt n (A.next l y) :=
  lin_real l _ _ R.lat R.latB (lin_real l _ _ R.enc R.encB h)

/-- Every level starts from the same. -/
theorem start_same (H : Holds p A j n) : ∀ l, SameAt j n (blockStart p l) (A.start l) := by
  have h0 : SameAt j n (Body.x0 p) (Stage.tok A.x) := fun a => by
    rw [tok_apply, ← H.x]
    unfold Body.x0
    rw [shapeCast_self]
  have h1 : SameAt j n (Body.x1 p) (A.next 0 (Stage.tok A.x)) := next_same H 0 h0
  have h2 : SameAt j n (Body.x2 p) (A.next 1 (A.next 0 (Stage.tok A.x))) := next_same H 1 h1
  exact fun | 0 => h0 | 1 => h1 | 2 => h2

/-- Every level starts from real numbers. -/
theorem start_real (R : A.Real) : ∀ l, RealAt n (A.start l) := by
  have h0 : RealAt n (Stage.tok A.x) := fun a => by
    rw [tok_apply]
    exact R.x _
  have h1 : RealAt n (A.next 0 (Stage.tok A.x)) := next_real R 0 h0
  have h2 : RealAt n (A.next 1 (A.next 0 (Stage.tok A.x))) := next_real R 1 h1
  exact fun | 0 => h0 | 1 => h1 | 2 => h2

/-- The codewords are the same. -/
theorem picked_same (H : Holds p A j n) (R : A.Real) (l : Fin 3) {x y} (h : SameAt j n x y) (hy : RealAt n y) :
    SameAt j n (Body.hardOf p l x) (A.hard l y) := by
  obtain ⟨N, hN, hs⟩ := H.csq
  unfold Body.hardOf Args.hard
  rw [H.bg, H.bd, hN]
  exact hard_same l A.codes N R.codes hs (q_same H l h) (q_real R l hy)

/-- The codewords are real. -/
theorem picked_real (H : Holds p A j n) (R : A.Real) (l : Fin 3) {x y} (h : SameAt j n x y) (hy : RealAt n y) :
    RealAt n (A.hard l y) := by
  obtain ⟨N, _, hs⟩ := H.csq
  exact hard_real l A.codes N R.codes hs (q_same H l h) (q_real R l hy)

/-- A level restores the same from the same side input. -/
theorem rest_same (H : Holds p A j n) (R : A.Real) (l : Fin 3) {x y} (h : SameAt j n x y) (hy : RealAt n y) {u w} (hw : SameAt j n u w) :
    SameAt j n (Body.restOf p l (Body.hardOf p l x) u) (A.rest l y w) := by
  unfold Body.restOf Args.rest
  rw [H.res, H.deq, H.side]
  refine lin_same 4 l _ _ _ (fun a => by rw [H.bias]; rfl) fun a => ?_
  have hd := lin_same 3 l A.deq p.bias A.deqB (fun a => by rw [H.bias]; rfl)
    (quant_same (q_real R l hy) (picked_real H R l h hy) (picked_same H R l h hy)) a
  have hs := lin_same 5 l A.side p.bias A.sideB (fun a => by rw [H.bias]; rfl) hw a
  refine (add_assoc _ _ _).trans ?_
  exact congrArg₂ (fun u v : EReal => u + v) hd hs

/-- The last level restores the same, its side input being zero. -/
theorem last_same (H : Holds p A j n) (R : A.Real) {x y} (h : SameAt j n x y) (hy : RealAt n y) :
    SameAt j n (Body.lastOf p (Body.hardOf p 2 x)) (A.rest 2 y Stage.zero) := by
  unfold Body.lastOf Args.rest
  rw [H.res, H.deq]
  refine lin_same 4 2 _ _ _ (fun a => by rw [H.bias]; rfl) fun a => ?_
  have hd := lin_same 3 2 A.deq p.bias A.deqB (fun a => by rw [H.bias]; rfl)
    (quant_same (q_real R 2 hy) (picked_real H R 2 h hy) (picked_same H R 2 h hy)) a
  refine congrArg₂ (fun u v : EReal => u + v) hd ?_
  rw [Body.bias_apply, lin_apply, H.bias]
  simp only [zero_apply, zero_mul, Finset.sum_const_zero, zero_add]
  rfl

/-- The restored token is the same. -/
theorem restored_same (H : Holds p A j n) (R : A.Real) (a : Fin 64) : Body.outOf p (ix2 j a) = A.restored (ix2 n a) := by
  rw [Body.outOf_apply]
  exact rest_same H R 0 (start_same H 0) (start_real R 0)
    (rest_same H R 1 (start_same H 1) (start_real R 1) (last_same H R (start_same H 2) (start_real R 2))) a

end Cert.Equal

end
-- ==== Proof.Eq.Loss.lean ====
/- The loss: the kernel's sum over blocks and the reference's means over tokens are the same number. -/
module

public import proofs.«01_k».proof.Proof.Eq.Token

@[expose] public section

set_option maxRecDepth 16384

noncomputable section

namespace Cert.Equal

open Cert.KernelIdeal Idealize.ShloMosaic Cert.ReferenceIdeal.Read
open Cert.ReferenceIdeal (Stage.loss Stage.mse)

/-- Column `j` of block `t` is this token. -/
def tokenOf (t : Fin 36) (j : Fin 4096) : Fin 147456 := ⟨4096 * t.val + j.val, by omega⟩

/-- A sum over the tokens is a sum over the blocks and their columns. -/
theorem sum_tokens (f : Fin 147456 → EReal) : ∑ n, f n = ∑ t : Fin 36, ∑ j : Fin 4096, f (tokenOf t j) := by
  rw [← Fintype.sum_prod_type' (fun (t : Fin 36) (j : Fin 4096) => f (tokenOf t j))]
  symm
  refine Fintype.sum_bijective (fun x : Fin 36 × Fin 4096 => tokenOf x.1 x.2) ⟨?_, ?_⟩ _ _ fun _ => rfl
  · rintro ⟨t, j⟩ ⟨t', j'⟩ e
    have e' : 4096 * t.val + j.val = 4096 * t'.val + j'.val := Fin.mk.inj_iff.mp e
    exact Prod.ext (Fin.ext (by show t.val = t'.val; omega)) (Fin.ext (by show j.val = j'.val; omega))
  · intro n
    exact ⟨(⟨n.val / 4096, by omega⟩, ⟨n.val % 4096, by omega⟩), Fin.ext (by
      show 4096 * (n.val / 4096) + n.val % 4096 = n.val; omega)⟩

/-- The squared differences of all tokens and codewords of a level, summed. -/
def Args.err (A : Args) (l : Fin 3) : EReal :=
  ∑ n : Fin 147456, ∑ c : Fin 64,
    (A.q l (A.start l) (ix2 n c) - A.hard l (A.start l) (ix2 n c)) * (A.q l (A.start l) (ix2 n c) - A.hard l (A.start l) (ix2 n c))

variable {A : Args}

/-- A block's squared error at a level. -/
theorem block_err (R : A.Real) (p : Body.Ins Ideal) (t : Fin 36) (H : ∀ j, Holds p A j (tokenOf t j)) (l : Fin 3) :
    Body.sq (Body.qOf p l (blockStart p l)) (Body.hardOf p l (blockStart p l)) =
      ∑ j : Fin 4096, ∑ c : Fin 64,
        (A.q l (A.start l) (ix2 (tokenOf t j) c) - A.hard l (A.start l) (ix2 (tokenOf t j) c)) *
          (A.q l (A.start l) (ix2 (tokenOf t j) c) - A.hard l (A.start l) (ix2 (tokenOf t j) c)) := by
  rw [Body.sq_eq, Finset.sum_comm]
  refine Finset.sum_congr rfl fun j _ => Finset.sum_congr rfl fun c _ => ?_
  rw [q_same (H j) l (start_same (H j) l) c, picked_same (H j) R l (start_same (H j) l) (start_real R l) c]

/-- The blocks' losses add up to the three levels' squared errors. -/
theorem sum_blocks (R : A.Real) (p : Fin 36 → Body.Ins Ideal) (H : ∀ t j, Holds (p t) A j (tokenOf t j)) :
    ∑ t, Body.lossOf (p t) = A.err 0 + A.err 1 + A.err 2 := by
  have hz : Ideal.ofBits .f32 0x00000000#32 = (0 : EReal) := by simp [Ideal.ofBits, Ideal.ieee]
  have hb : ∀ t, Body.lossOf (p t) =
      Body.sq (Body.qOf (p t) 0 (blockStart (p t) 0)) (Body.hardOf (p t) 0 (blockStart (p t) 0)) +
      Body.sq (Body.qOf (p t) 1 (blockStart (p t) 1)) (Body.hardOf (p t) 1 (blockStart (p t) 1)) +
      Body.sq (Body.qOf (p t) 2 (blockStart (p t) 2)) (Body.hardOf (p t) 2 (blockStart (p t) 2)) := by
    intro t
    unfold Body.lossOf
    show Ideal.ofBits .f32 0x00000000#32 + _ + _ + _ = _
    rw [hz, zero_add]
    rfl
  simp only [hb, Finset.sum_add_distrib]
  unfold Args.err
  rw [sum_tokens, sum_tokens, sum_tokens]
  refine congrArg₂ (· + ·) (congrArg₂ (· + ·) ?_ ?_) ?_ <;>
    exact Finset.sum_congr rfl fun t _ => block_err R (p t) t (H t) _

/-- The squared error of a level is real. -/
theorem err_real (R : A.Real) (p : Fin 36 → Body.Ins Ideal) (H : ∀ t j, Holds (p t) A j (tokenOf t j)) (l : Fin 3) : IsReal (A.err l) := by
  unfold Args.err
  rw [sum_tokens]
  refine IsReal.sum fun t => IsReal.sum fun j => IsReal.sum fun c => ?_
  have hd := (q_real R l (start_real (n := tokenOf t j) R l) c).sub (picked_real (H t j) R l (start_same (H t j) l) (start_real R l) c)
  exact hd.mul hd

/-- The reference's loss. -/
def Args.loss (A : Args) : Vec Ideal S_ .f32 :=
  Stage.loss (Stage.loss (Stage.loss (constant (F := Ideal) S_ .f32 0x00000000#32) (A.q 0 (A.start 0)) (A.hard 0 (A.start 0)))
    (A.q 1 (A.start 1)) (A.hard 1 (A.start 1))) (A.q 2 (A.start 2)) (A.hard 2 (A.start 2))

/-- The mean squared error of a level. -/
theorem mse_err (l : Fin 3) (i : S_.Idx) :
    Stage.mse (A.q l (A.start l)) (A.hard l (A.start l)) i = Ideal.div (A.err l) (Ideal.ofBits .f32 0x4B100000#32) := mse_apply _ _ _

/-- Five quarters of the sum over the number of entries is the sum of the means and their quarters. -/
theorem scale_eq {a b c : EReal} (ha : IsReal a) (hb : IsReal b) (hc : IsReal c) :
    Ideal.div ((a + b + c) * Ideal.ofBits .f32 0x3FA00000#32) (Ideal.ofBits .f32 0x4B100000#32) =
      Ideal.ofBits .f32 0x00000000#32 + Ideal.div a (Ideal.ofBits .f32 0x4B100000#32)
        + Ideal.ofBits .f32 0x3E800000#32 * Ideal.div a (Ideal.ofBits .f32 0x4B100000#32)
        + Ideal.div b (Ideal.ofBits .f32 0x4B100000#32)
        + Ideal.ofBits .f32 0x3E800000#32 * Ideal.div b (Ideal.ofBits .f32 0x4B100000#32)
        + Ideal.div c (Ideal.ofBits .f32 0x4B100000#32)
        + Ideal.ofBits .f32 0x3E800000#32 * Ideal.div c (Ideal.ofBits .f32 0x4B100000#32) := by
  have hz : Ideal.ofBits .f32 0x00000000#32 = (0 : EReal) := by simp [Ideal.ofBits, Ideal.ieee]
  have h5 : Ideal.ofBits .f32 0x3FA00000#32 = ((5 / 4 : ℝ) : EReal) := by
    simp [Ideal.ofBits, Ideal.ieee, -EReal.coe_mul]
    norm_num
  have h4 : Ideal.ofBits .f32 0x3E800000#32 = ((1 / 4 : ℝ) : EReal) := by
    simp [Ideal.ofBits, Ideal.ieee, -EReal.coe_mul]
    norm_num
  have hn : Ideal.ofBits .f32 0x4B100000#32 = ((9437184 : ℝ) : EReal) := by
    simp [Ideal.ofBits, Ideal.ieee, -EReal.coe_mul]
  obtain ⟨a, rfl⟩ := ha
  obtain ⟨b, rfl⟩ := hb
  obtain ⟨c, rfl⟩ := hc
  rw [hz, h5, h4, hn, zero_add]
  simp only [Ideal.div_coe (show (9437184 : ℝ) ≠ 0 by norm_num), ← EReal.coe_mul, ← EReal.coe_add]
  congr 1
  ring

/-- The kernel's loss is the reference's. -/
theorem loss_same (R : A.Real) (p : Fin 36 → Body.Ins Ideal) (H : ∀ t j, Holds (p t) A j (tokenOf t j)) (i : S_.Idx) :
    Ideal.div ((∑ t, Body.lossOf (p t)) * Ideal.ofBits .f32 0x3FA00000#32) (Ideal.ofBits .f32 0x4B100000#32) = A.loss i := by
  rw [sum_blocks R p H]
  unfold Args.loss
  rw [loss_apply, loss_apply, loss_apply, mse_err, mse_err, mse_err]
  exact scale_eq (err_real R p H 0) (err_real R p H 1) (err_real R p H 2)

end Cert.Equal

end
-- ==== Proof.Eq.Given.lean ====
/- Both programs are given the same, the precondition makes it real, and each block of the kernel holds its tokens. -/
module

public import proofs.«01_k».proof.Defs
public import proofs.«01_k».proof.Proof.Gen.Pre_finite
public import proofs.«01_k».proof.Proof.Ker.Arrays
public import proofs.«01_k».proof.Proof.Eq.Loss

@[expose] public section

set_option maxRecDepth 16384

noncomputable section

namespace Cert.Equal

open Cert.KernelIdeal Cert.KernelIdeal.Gen Idealize.ShloMosaic Idealize.ShloMosaic.TcCoe Idealize.SL.Sem
open Cert.ReferenceIdeal (Stage.out)

/-- What the kernel is given. -/
def kernelArgs (m : (ℓ : Loc nD τ sig) → Buf (Elt Ideal) ℓ) (c : Dev nD) : Args where
  x := m ((c : Thread nD τ).loc main_arg0)
  enc := m ((c : Thread nD τ).loc main_arg1)
  encB := m ((c : Thread nD τ).loc main_arg2)
  quant := m ((c : Thread nD τ).loc main_arg3)
  quantB := m ((c : Thread nD τ).loc main_arg4)
  lat := m ((c : Thread nD τ).loc main_arg5)
  latB := m ((c : Thread nD τ).loc main_arg6)
  deq := m ((c : Thread nD τ).loc main_arg7)
  deqB := m ((c : Thread nD τ).loc main_arg8)
  res := m ((c : Thread nD τ).loc main_arg9)
  resB := m ((c : Thread nD τ).loc main_arg10)
  side := m ((c : Thread nD τ).loc main_arg11)
  sideB := m ((c : Thread nD τ).loc main_arg12)
  codes := m ((c : Thread nD τ).loc main_arg13)

/-- An entry whose absolute value is below infinity is real. -/
theorem real_of_abs (x : EReal) (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  induction x with
  | bot => simp [Ideal.cmp] at h
  | top => simp [Ideal.cmp] at h
  | coe r => exact ⟨r, rfl⟩

/-- An array whose absolute values are all below infinity is of real numbers. -/
theorem reals {s : Shape} (x : FVec Ideal s .f32) (y : FVec Ideal s .f32) (hy : ∀ i, y i = Ideal.ofBits .f32 0x7F800000#32)
    (h : cmpf .olt (Host.absf x) y = fun _ => 1#1) (i : s.Idx) : IsReal (x i) := by
  have hi : Ideal.cmp .olt (max (x i) (-x i)) (y i) = 1#1 := congrFun h i
  rw [hy] at hi
  exact real_of_abs _ hi

variable (m : (ℓ : Loc nD τ sig) → Buf (Elt Ideal) ℓ)

/-- Under the precondition what the distances are computed from is real. -/
theorem given_real (h : Cert.Pre_KernelIdeal_finite m) (c : Dev nD) : (kernelArgs m c).Real := by
  obtain ⟨h0, h1, h2, h3, h4, h5, h6, h13⟩ := h c
  exact ⟨reals _ _ (fun _ => rfl) h0, reals _ _ (fun _ => rfl) h1, reals _ _ (fun _ => rfl) h2, reals _ _ (fun _ => rfl) h3,
    reals _ _ (fun _ => rfl) h4, reals _ _ (fun _ => rfl) h5, reals _ _ (fun _ => rfl) h6, reals _ _ (fun _ => rfl) h13⟩

/-- A token's block holds what the kernel is given. -/
theorem holds (c : Dev nD) (n : Fin 147456) : Holds (Body.given m c (Body.blockOf n)) (kernelArgs m c) (Body.placeOf n) n where
  x := fun k => Body.block_x m c n k
  enc := rfl
  quant := rfl
  lat := rfl
  deq := rfl
  res := rfl
  side := rfl
  bd := rfl
  bg := rfl
  csq := ⟨Body.norms m c, rfl, Body.entry_norms m c⟩
  bias := rfl

/-- The kernel's blocks. -/
def blocks (c : Dev nD) (t : Fin 36) : Body.Ins Ideal := Body.given m c ⟨t.val, by rw [show cfg0.N = 36 from N_0]; exact t.isLt⟩

/-- Every column of a block is its token. -/
theorem blocks_hold (c : Dev nD) (t : Fin 36) (j : Fin 4096) : Holds (blocks m c t) (kernelArgs m c) j (tokenOf t j) := by
  have h := holds m c (tokenOf t j)
  have e1 : Body.blockOf (tokenOf t j) = ⟨t.val, by rw [show cfg0.N = 36 from N_0]; exact t.isLt⟩ := Fin.ext (by
    show (4096 * t.val + j.val) / 4096 = t.val; omega)
  have e2 : Body.placeOf (tokenOf t j) = j := Fin.ext (by show (4096 * t.val + j.val) % 4096 = j.val; omega)
  rw [e1, e2] at h
  exact h

/-- The kernel's restored map is the reference's. -/
theorem map_same (c : Dev nD) (R : (kernelArgs m c).Real) :
    shapeCast S1x384x384x64 (Body.tokens m c) shapeCasts_S147456x64_S1x384x384x64 = Stage.out (kernelArgs m c).restored := by
  have e : Body.tokens m c = (kernelArgs m c).restored := funext fun i => by
    rw [eq_ix2 i]
    exact restored_same (holds m c (i 0)) R (i 1)
  rw [e]
  rfl

/-- The kernel's loss is the reference's. -/
theorem scaled_same (c : Dev nD) (R : (kernelArgs m c).Real) :
    (fun _ => Body.scaled (∑ u ∈ Finset.range 36, Body.lossAt m c u)) = (kernelArgs m c).loss := by
  have e : ∑ u ∈ Finset.range 36, Body.lossAt m c u = ∑ t, Body.lossOf (blocks m c t) := by
    rw [Finset.sum_range]
    refine Finset.sum_congr rfl fun t _ => ?_
    exact dif_pos (by rw [show cfg0.N = 36 from N_0]; exact t.isLt)
  rw [e]
  exact funext fun i => loss_same R (blocks m c) (blocks_hold m c) i

end Cert.Equal

end
-- ==== Proof.Eq.Reference.lean ====
/- The reference's run, in terms of what it is given. -/
module

public import proofs.«01_k».proof.Proof.Eq.Loss

@[expose] public section

set_option maxRecDepth 16384

noncomputable section

namespace Cert.Equal

open Cert.ReferenceIdeal Cert.ReferenceIdeal.Gen Idealize.ShloMosaic Idealize.ShloMosaic.TcCoe Idealize.SL.Sem
open Idealize.ShloMosaic.StableHlo (launchContents)

/-- What the reference is given. -/
def referenceArgs (V : Valuation τ sig (Elt Ideal)) : Args where
  x := V (Proc.devRef .tc main_arg0)
  enc := V (Proc.devRef .tc main_arg1)
  encB := V (Proc.devRef .tc main_arg2)
  quant := V (Proc.devRef .tc main_arg3)
  quantB := V (Proc.devRef .tc main_arg4)
  lat := V (Proc.devRef .tc main_arg5)
  latB := V (Proc.devRef .tc main_arg6)
  deq := V (Proc.devRef .tc main_arg7)
  deqB := V (Proc.devRef .tc main_arg8)
  res := V (Proc.devRef .tc main_arg9)
  resB := V (Proc.devRef .tc main_arg10)
  side := V (Proc.devRef .tc main_arg11)
  sideB := V (Proc.devRef .tc main_arg12)
  codes := V (Proc.devRef .tc main_arg13)

/-- The reference restores the map of its restored tokens. -/
theorem restored_args (V : Valuation τ sig (Elt Ideal)) : Run.restored V = Stage.out (referenceArgs V).restored := rfl

/-- The reference's loss. -/
theorem loss_args (V : Valuation τ sig (Elt Ideal)) : Run.lossOf V = (referenceArgs V).loss := rfl

variable (m : (ℓ : Loc nD τ sig) → Buf (Elt Ideal) ℓ) (ρ : Dev nD → PrngReg)

/-- The reference leaves its arguments as they were. -/
theorem reference_keeps : θ_run defs (onTc (τ := τ) (main (F := Ideal))) ⟨m, fun _ => 0, ρ⟩ fun r => ∀ c : Dev nD,
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8) ∧
    r.2.mem ((c.tc : Thread nD τ).loc main_arg9) = m ((c.tc : Thread nD τ).loc main_arg9) ∧
    r.2.mem ((c.tc : Thread nD τ).loc main_arg10) = m ((c.tc : Thread nD τ).loc main_arg10) ∧
    r.2.mem ((c.tc : Thread nD τ).loc main_arg11) = m ((c.tc : Thread nD τ).loc main_arg11) ∧
    r.2.mem ((c.tc : Thread nD τ).loc main_arg12) = m ((c.tc : Thread nD τ).loc main_arg12) ∧
    r.2.mem ((c.tc : Thread nD τ).loc main_arg13) = m ((c.tc : Thread nD τ).loc main_arg13) := by
  refine (θ_run defs _ _).mono (fun r h c => ⟨(h c main_arg0).trans (Run.arg0_end _),
    (h c main_arg1).trans (Run.arg1_end _),
    (h c main_arg2).trans (Run.arg2_end _),
    (h c main_arg3).trans (Run.arg3_end _),
    (h c main_arg4).trans (Run.arg4_end _),
    (h c main_arg5).trans (Run.arg5_end _),
    (h c main_arg6).trans (Run.arg6_end _),
    (h c main_arg7).trans (Run.arg7_end _),
    (h c main_arg8).trans (Run.arg8_end _),
    (h c main_arg9).trans (Run.arg9_end _),
    (h c main_arg10).trans (Run.arg10_end _),
    (h c main_arg11).trans (Run.arg11_end _),
    (h c main_arg12).trans (Run.arg12_end _),
    (h c main_arg13).trans (Run.arg13_end _)⟩) (Run.run m ρ)

/-- The reference ends with its restored map and its loss. -/
theorem reference_run : θ_run defs (onTc (τ := τ) (main (F := Ideal))) ⟨m, fun _ => 0, ρ⟩ fun r => ∀ c : Dev nD,
    r.2.mem ((c.tc : Thread nD τ).loc main_v315) = Stage.out (referenceArgs (launchContents m c)).restored ∧
    r.2.mem ((c.tc : Thread nD τ).loc main_v220) = (referenceArgs (launchContents m c)).loss := by
  refine (θ_run defs _ _).mono (fun r h c => ⟨?_, ?_⟩) (Run.run m ρ)
  · exact (h c main_v315).trans ((Run.restored_end _).trans (restored_args _))
  · exact (h c main_v220).trans ((Run.loss_end _).trans (loss_args _))

end Cert.Equal

end
-- ==== Proof.Eq.Agree.lean ====
/- The two programs, run from memories agreeing on the arguments, end with equal results. -/
module

public import proofs.«01_k».proof.Proof.Eq.Given
public import proofs.«01_k».proof.Proof.Eq.Reference
public import proofs.«01_k».proof.Proof.Gen.KernelIdeal.Frame
public import Idealize.ShloMosaic.Lib.Claim

@[expose] public section

noncomputable section

namespace Cert.Equal

open Idealize.ShloMosaic Idealize.SL.Sem
open Cert.ReferenceIdeal (Stage.out)

/-- Under the precondition the kernel and the reference end with one restored map and one loss, and leave their arguments as they were. -/
theorem agree : Cert.algebraic_KernelIdeal_ReferenceIdeal_pre_finite := by
  intro m g m' g' pre same
  have hargs : ∀ c : Dev Cert.KernelIdeal.nD, referenceArgs (StableHlo.launchContents m' c) = kernelArgs m c := fun c =>
    Eq.mpr (Args.mk.injEq ..) (same c)
  refine ⟨fun c => Stage.out (kernelArgs m c).restored, fun c => (kernelArgs m c).loss, ?_, ?_⟩
  · refine (θ_run Cert.KernelIdeal.defs _ _).mono (fun r h c => ⟨?_, ?_, h.2 c⟩)
      (θ_run_and (Cert.KernelIdeal.Body.run m g) (Cert.KernelIdeal.Gen.unchanged m g))
    · exact (h.1 c).1.trans (map_same m c (given_real m pre c))
    · exact (h.1 c).2.trans (scaled_same m c (given_real m pre c))
  · refine (θ_run Cert.ReferenceIdeal.defs _ _).mono (fun r h c => ⟨?_, ?_, h.2 c⟩)
      (θ_run_and (reference_run m' g') (reference_keeps m' g'))
    · exact (h.1 c).1.trans (congrArg (fun A : Args => Stage.out A.restored) (hargs c))
    · exact (h.1 c).2.trans (congrArg Args.loss (hargs c))

end Cert.Equal

end
-- ==== Proof.lean ====
/- The proof of the certificate's claim: the three frames, the idealization, and the equality of the results. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_finite
public import proofs.«01_k».proof.Proof.Eq.Agree
public import Idealize.ShloMosaic.Lib.Quiescent

@[expose] public section

noncomputable section

namespace Cert.Proof

open Idealize.ShloMosaic Idealize.SL.Sem

/-- The reference leaves its arguments as they were, and has no semaphore to leave raised. -/
theorem reference_frame : Cert.quiescent_ReferenceIdeal := fun m ρ _ =>
  (θ_run Cert.ReferenceIdeal.defs _ _).mono (fun r h => ⟨h, sem_eq_zero_of_no_sems (by decide) r.2⟩) (Cert.Equal.reference_keeps m ρ)

/-- Everything the certificate claims: the program, its idealization and the reference run and leave their arguments and semaphores as they
    were, and at the idealization the kernel's two results are the reference's. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, Cert.Equal.agree⟩

end Cert.Proof

end
